-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 2048]⟩ ⟨2, ![4096, 2048]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x256 : Shape := ⟨2, ![4096, 256]⟩
abbrev S4096x2048 : Shape := ⟨2, ![4096, 2048]⟩
abbrev S256x2048 : Shape := ⟨2, ![256, 2048]⟩
abbrev S16x256x256 : Shape := ⟨3, ![16, 256, 256]⟩
abbrev S6x256x2048 : Shape := ⟨3, ![6, 256, 2048]⟩
abbrev S15 : Shape := ⟨1, ![15]⟩
abbrev S16 : Shape := ⟨1, ![16]⟩
abbrev S6 : Shape := ⟨1, ![6]⟩
abbrev S_ : Shape := ⟨0, ![]⟩
abbrev S1 : Shape := ⟨1, ![1]⟩
abbrev S1x256x256 : Shape := ⟨3, ![1, 256, 256]⟩
abbrev S256x256 : Shape := ⟨2, ![256, 256]⟩
abbrev S1x256x2048 : Shape := ⟨3, ![1, 256, 2048]⟩

abbrev nBuf : Space → Nat
  | .hbm => 3
  | .vmem => 5
  | .smem => 0
  | _ => 0

abbrev bufTy : (tb : Table) → Fin (tcTables nBuf tb) → BufTy
  | .hbm, ⟨0, _⟩ => ⟨S4096x256, .f32⟩
  | .hbm, ⟨1, _⟩ => ⟨S4096x2048, .f32⟩
  | .hbm, ⟨2, _⟩ => ⟨S256x2048, .f32⟩
  | .local _ .vmem, ⟨0, _⟩ => ⟨S4096x256, .f32⟩
  | .local _ .vmem, ⟨1, _⟩ => ⟨S4096x256, .bf16⟩
  | .local _ .vmem, ⟨2, _⟩ => ⟨S16x256x256, .bf16⟩
  | .local _ .vmem, ⟨3, _⟩ => ⟨S6x256x2048, .f32⟩
  | .local _ .vmem, ⟨4, _⟩ => ⟨S256x2048, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  (ofTc nBuf bufTy 1 39 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_sem0_0 : DmaSem sig := 0
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_off1 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_69 : BitVec 32 := 0#32
  let c0_i32_70 : BitVec 32 := 0#32
  ![v2.toNat, 0, 0]
def k0_off3 (d0 : Dev nD) (c12_i32_64 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v70 : BitVec 32 := Scalar.addi v2 c12_i32_64
  let c16_i32_65 : BitVec 32 := 16#32
  let v71 : BitVec 32 := Scalar.remsi v70 c16_i32_65
  let c256_i32 : BitVec 32 := 256#32
  let v72 : BitVec 32 := Scalar.muli v71 c256_i32
  let c0_i32_71 : BitVec 32 := 0#32
  ![v72.toNat, 0]
def k0_dev16 (d0 : Dev nD) : Nat :=
  let c0_i32_68 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_64 : BitVec 32 := 12#32
  let v70 : BitVec 32 := Scalar.addi v2 c12_i32_64
  let c16_i32_65 : BitVec 32 := 16#32
  let v71 : BitVec 32 := Scalar.remsi v70 c16_i32_65
  let c1_i32_67 : BitVec 32 := 1#32
  let v73 : BitVec 32 := Scalar.muli v71 c1_i32_67
  let v74 : BitVec 32 := Scalar.addi c0_i32_68 v73
  v74.toNat
def k0_dev17 (d0 : Dev nD) : Nat :=
  let c0_i32_77 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_72 : BitVec 32 := 13#32
  let v82 : BitVec 32 := Scalar.addi v2 c13_i32_72
  let c16_i32_73 : BitVec 32 := 16#32
  let v83 : BitVec 32 := Scalar.remsi v82 c16_i32_73
  let c1_i32_76 : BitVec 32 := 1#32
  let v85 : BitVec 32 := Scalar.muli v83 c1_i32_76
  let v86 : BitVec 32 := Scalar.addi c0_i32_77 v85
  v86.toNat
def k0_dev18 (d0 : Dev nD) : Nat :=
  let c0_i32_86 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_81 : BitVec 32 := 14#32
  let v94 : BitVec 32 := Scalar.addi v2 c14_i32_81
  let c16_i32_82 : BitVec 32 := 16#32
  let v95 : BitVec 32 := Scalar.remsi v94 c16_i32_82
  let c1_i32_85 : BitVec 32 := 1#32
  let v97 : BitVec 32 := Scalar.muli v95 c1_i32_85
  let v98 : BitVec 32 := Scalar.addi c0_i32_86 v97
  v98.toNat
def k0_dev19 (d0 : Dev nD) : Nat :=
  let c0_i32_95 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_90 : BitVec 32 := 15#32
  let v106 : BitVec 32 := Scalar.addi v2 c15_i32_90
  let c16_i32_91 : BitVec 32 := 16#32
  let v107 : BitVec 32 := Scalar.remsi v106 c16_i32_91
  let c1_i32_94 : BitVec 32 := 1#32
  let v109 : BitVec 32 := Scalar.muli v107 c1_i32_94
  let v110 : BitVec 32 := Scalar.addi c0_i32_95 v109
  v110.toNat
def k0_dev20 (d0 : Dev nD) : Nat :=
  let c0_i32_104 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_99 : BitVec 32 := 8#32
  let v118 : BitVec 32 := Scalar.addi v2 c8_i32_99
  let c16_i32_100 : BitVec 32 := 16#32
  let v119 : BitVec 32 := Scalar.remsi v118 c16_i32_100
  let c1_i32_103 : BitVec 32 := 1#32
  let v121 : BitVec 32 := Scalar.muli v119 c1_i32_103
  let v122 : BitVec 32 := Scalar.addi c0_i32_104 v121
  v122.toNat
def k0_dev21 (d0 : Dev nD) : Nat :=
  let c0_i32_113 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_108 : BitVec 32 := 9#32
  let v130 : BitVec 32 := Scalar.addi v2 c9_i32_108
  let c16_i32_109 : BitVec 32 := 16#32
  let v131 : BitVec 32 := Scalar.remsi v130 c16_i32_109
  let c1_i32_112 : BitVec 32 := 1#32
  let v133 : BitVec 32 := Scalar.muli v131 c1_i32_112
  let v134 : BitVec 32 := Scalar.addi c0_i32_113 v133
  v134.toNat
def k0_dev22 (d0 : Dev nD) : Nat :=
  let c0_i32_122 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_117 : BitVec 32 := 10#32
  let v142 : BitVec 32 := Scalar.addi v2 c10_i32_117
  let c16_i32_118 : BitVec 32 := 16#32
  let v143 : BitVec 32 := Scalar.remsi v142 c16_i32_118
  let c1_i32_121 : BitVec 32 := 1#32
  let v145 : BitVec 32 := Scalar.muli v143 c1_i32_121
  let v146 : BitVec 32 := Scalar.addi c0_i32_122 v145
  v146.toNat
def k0_dev23 (d0 : Dev nD) : Nat :=
  let c0_i32_131 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_126 : BitVec 32 := 11#32
  let v154 : BitVec 32 := Scalar.addi v2 c11_i32_126
  let c16_i32_127 : BitVec 32 := 16#32
  let v155 : BitVec 32 := Scalar.remsi v154 c16_i32_127
  let c1_i32_130 : BitVec 32 := 1#32
  let v157 : BitVec 32 := Scalar.muli v155 c1_i32_130
  let v158 : BitVec 32 := Scalar.addi c0_i32_131 v157
  v158.toNat
def k0_dev24 (d0 : Dev nD) : Nat :=
  let c0_i32_140 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_135 : BitVec 32 := 4#32
  let v166 : BitVec 32 := Scalar.addi v2 c4_i32_135
  let c16_i32_136 : BitVec 32 := 16#32
  let v167 : BitVec 32 := Scalar.remsi v166 c16_i32_136
  let c1_i32_139 : BitVec 32 := 1#32
  let v169 : BitVec 32 := Scalar.muli v167 c1_i32_139
  let v170 : BitVec 32 := Scalar.addi c0_i32_140 v169
  v170.toNat
def k0_dev25 (d0 : Dev nD) : Nat :=
  let c0_i32_149 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_144 : BitVec 32 := 5#32
  let v178 : BitVec 32 := Scalar.addi v2 c5_i32_144
  let c16_i32_145 : BitVec 32 := 16#32
  let v179 : BitVec 32 := Scalar.remsi v178 c16_i32_145
  let c1_i32_148 : BitVec 32 := 1#32
  let v181 : BitVec 32 := Scalar.muli v179 c1_i32_148
  let v182 : BitVec 32 := Scalar.addi c0_i32_149 v181
  v182.toNat
def k0_dev26 (d0 : Dev nD) : Nat :=
  let c0_i32_158 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_153 : BitVec 32 := 6#32
  let v190 : BitVec 32 := Scalar.addi v2 c6_i32_153
  let c16_i32_154 : BitVec 32 := 16#32
  let v191 : BitVec 32 := Scalar.remsi v190 c16_i32_154
  let c1_i32_157 : BitVec 32 := 1#32
  let v193 : BitVec 32 := Scalar.muli v191 c1_i32_157
  let v194 : BitVec 32 := Scalar.addi c0_i32_158 v193
  v194.toNat
def k0_dev27 (d0 : Dev nD) : Nat :=
  let c0_i32_167 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_162 : BitVec 32 := 7#32
  let v202 : BitVec 32 := Scalar.addi v2 c7_i32_162
  let c16_i32_163 : BitVec 32 := 16#32
  let v203 : BitVec 32 := Scalar.remsi v202 c16_i32_163
  let c1_i32_166 : BitVec 32 := 1#32
  let v205 : BitVec 32 := Scalar.muli v203 c1_i32_166
  let v206 : BitVec 32 := Scalar.addi c0_i32_167 v205
  v206.toNat
def k0_dev28 (d0 : Dev nD) : Nat :=
  let c0_i32_176 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_171 : BitVec 32 := 1#32
  let v214 : BitVec 32 := Scalar.addi v2 c1_i32_171
  let c16_i32_172 : BitVec 32 := 16#32
  let v215 : BitVec 32 := Scalar.remsi v214 c16_i32_172
  let c1_i32_175 : BitVec 32 := 1#32
  let v217 : BitVec 32 := Scalar.muli v215 c1_i32_175
  let v218 : BitVec 32 := Scalar.addi c0_i32_176 v217
  v218.toNat
def k0_dev29 (d0 : Dev nD) : Nat :=
  let c0_i32_185 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_180 : BitVec 32 := 2#32
  let v226 : BitVec 32 := Scalar.addi v2 c2_i32_180
  let c16_i32_181 : BitVec 32 := 16#32
  let v227 : BitVec 32 := Scalar.remsi v226 c16_i32_181
  let c1_i32_184 : BitVec 32 := 1#32
  let v229 : BitVec 32 := Scalar.muli v227 c1_i32_184
  let v230 : BitVec 32 := Scalar.addi c0_i32_185 v229
  v230.toNat
def k0_dev30 (d0 : Dev nD) : Nat :=
  let c0_i32_194 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_189 : BitVec 32 := 3#32
  let v238 : BitVec 32 := Scalar.addi v2 c3_i32_189
  let c16_i32_190 : BitVec 32 := 16#32
  let v239 : BitVec 32 := Scalar.remsi v238 c16_i32_190
  let c1_i32_193 : BitVec 32 := 1#32
  let v241 : BitVec 32 := Scalar.muli v239 c1_i32_193
  let v242 : BitVec 32 := Scalar.addi c0_i32_194 v241
  v242.toNat
def k0_off4 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_198 : BitVec 32 := 256#32
  let v250 : BitVec 32 := Scalar.muli v2 c256_i32_198
  let c0_i32_203 : BitVec 32 := 0#32
  ![v250.toNat, 0]
def k0_off5 (d0 : Dev nD) (c15_i32_204 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v256 : BitVec 32 := Scalar.addi v2 c15_i32_204
  let c16_i32_205 : BitVec 32 := 16#32
  let v257 : BitVec 32 := Scalar.remsi v256 c16_i32_205
  let c256_i32_206 : BitVec 32 := 256#32
  let v258 : BitVec 32 := Scalar.muli v257 c256_i32_206
  let c0_i32_211 : BitVec 32 := 0#32
  ![v258.toNat, 0]
def k0_off6 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_250 : BitVec 32 := 256#32
  let v302 : BitVec 32 := Scalar.muli v2 c256_i32_250
  let v303 : Index := Scalar.indexCast v302
  let c0_251 : Index := 0#32
  ![v303.toNat, 0]
def k0_off7 (d0 : Dev nD) (c1_i32_274 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_273 : BitVec 32 := 16#32
  let v328 : BitVec 32 := Scalar.addi v2 c16_i32_273
  let v329 : BitVec 32 := Scalar.subi v328 c1_i32_274
  let c16_i32_275 : BitVec 32 := 16#32
  let v330 : BitVec 32 := Scalar.remsi v329 c16_i32_275
  ![v330.toNat]
def k0_off8 (d0 : Dev nD) (c1_i32_274 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_273 : BitVec 32 := 16#32
  let v328 : BitVec 32 := Scalar.addi v2 c16_i32_273
  let v329 : BitVec 32 := Scalar.subi v328 c1_i32_274
  let c16_i32_275 : BitVec 32 := 16#32
  let v330 : BitVec 32 := Scalar.remsi v329 c16_i32_275
  let c0_i32_279 : BitVec 32 := 0#32
  let c0_i32_280 : BitVec 32 := 0#32
  ![v330.toNat, 0, 0]
def k0_off9 (d0 : Dev nD) (c1_i32_274 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_273 : BitVec 32 := 16#32
  let v328 : BitVec 32 := Scalar.addi v2 c16_i32_273
  let v329 : BitVec 32 := Scalar.subi v328 c1_i32_274
  let c16_i32_275 : BitVec 32 := 16#32
  let v330 : BitVec 32 := Scalar.remsi v329 c16_i32_275
  let v339 : Index := Scalar.indexCast v330
  let c0_285 : Index := 0#32
  let c0_286 : Index := 0#32
  ![v339.toNat, 0, 0]
abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Places.lean ====
/-
Where the exchange keeps things: the offsets between devices, the blocks the buffers are cut into, the semaphore cells.

Sixteen devices. Device `c` sends, as its `k`-th transfer, rows `256·(c + ord k)` of its narrowed block of `x` to device
`c + ord k`, into slot `c` of that device's landing buffer; the weights come in sixteen row blocks through six slots.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.Memref
public import Idealize.ShloMosaic.Lib.Transfers
public import Idealize.ShloMosaic.Lib.Tactic

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The order of the transfers -/

/-- The offset of the device the `k`-th transfer goes to. -/
def ord : Fin 15 → Dev nD := ![12, 13, 14, 15, 8, 9, 10, 11, 4, 5, 6, 7, 1, 2, 3]
/-- The offset `j + 1` of the `j`-th signal, and of the source of the `j`-th landing waited for. -/
def off (j : Fin 15) : Dev nD := ⟨j.val + 1, by have := j.isLt; show j.val + 1 < 16; omega⟩
/-- Which transfer of the device `j + 1` further on comes here. -/
def back (j : Fin 15) : Fin 15 := (![3, 2, 1, 0, 7, 6, 5, 4, 11, 10, 9, 8, 14, 13, 12] : Fin 15 → Fin 15) j
/-- Which landing waited for is that of the `k`-th transfer. -/
def land (k : Fin 15) : Fin 15 := (![11, 12, 13, 14, 7, 8, 9, 10, 3, 4, 5, 6, 0, 1, 2] : Fin 15 → Fin 15) k

theorem ord_ne (k : Fin 15) (c : Dev nD) : c + ord k ≠ c := by revert k c; decide +kernel
theorem off_add_back (c : Dev nD) (j : Fin 15) : c + off j + ord (back j) = c := by revert c j; decide +kernel
theorem back_back (j : Fin 15) : back (back j) = j := by revert j; decide
theorem add_ord_sub (c : Dev nD) (k : Fin 15) : c + ord k - off (land k) = c := by revert c k; decide +kernel
theorem sub_off_ne (c : Dev nD) (j : Fin 15) : c - off j ≠ c := by revert c j; decide +kernel
theorem land_bij : Function.Bijective land := by decide +kernel
theorem back_bij : Function.Bijective back := by decide +kernel
theorem ord_inj : Function.Injective ord := by decide
theorem off_inj : Function.Injective off := by decide

/-! ## The blocks -/

abbrev xM : Memref sig .tc .vmem S4096x256 .f32 := Memref.whole cc0_stg0_0
abbrev xsM : Memref sig .tc .vmem S4096x256 .bf16 := Memref.whole cc0_scratch0
abbrev xrM : Memref sig .tc .vmem S16x256x256 .bf16 := Memref.whole cc0_scratch1
abbrev wbM : Memref sig .tc .vmem S6x256x2048 .f32 := Memref.whole cc0_scratch2
abbrev acM : Memref sig .tc .vmem S256x2048 .f32 := Memref.whole cc0_scratch3
abbrev wM : Memref sig .tc .hbm S4096x2048 .f32 := Memref.whole main_arg1
abbrev oM : Memref sig .tc .hbm S256x2048 .f32 := Memref.whole main_v1

theorem xs_inb (p : Fin 16) : ∀ a, (![256 * p.val, 0] : Fin 2 → ℕ) a + S256x256.size a ≤ S4096x256.size a := by
  revert p; decide
theorem xr_inb (p : Fin 16) : ∀ a, (![p.val, 0, 0] : Fin 3 → ℕ) a + S1x256x256.size a ≤ S16x256x256.size a := by
  revert p; decide
theorem wb_inb (s : Fin 6) : ∀ a, (![s.val, 0, 0] : Fin 3 → ℕ) a + S1x256x2048.size a ≤ S6x256x2048.size a := by
  revert s; decide
theorem w_inb (p : Fin 16) : ∀ a, (![256 * p.val, 0] : Fin 2 → ℕ) a + S256x2048.size a ≤ S4096x2048.size a := by
  revert p; decide

/-- Rows `256·p` to `256·p + 255` of an array of 4096 rows, slot `p` of the landing buffer, slot `s` of the weights'. -/
abbrev xsR (p : Fin 16) : Rect S4096x256 := Rect.unit (s := S4096x256) ![256 * p.val, 0] S256x256.size (xs_inb p)
abbrev xrR (p : Fin 16) : Rect S16x256x256 := Rect.unit (s := S16x256x256) ![p.val, 0, 0] S1x256x256.size (xr_inb p)
abbrev wbR (s : Fin 6) : Rect S6x256x2048 := Rect.unit (s := S6x256x2048) ![s.val, 0, 0] S1x256x2048.size (wb_inb s)
abbrev wR (p : Fin 16) : Rect S4096x2048 := Rect.unit (s := S4096x2048) ![256 * p.val, 0] S256x2048.size (w_inb p)

abbrev xsB (p : Fin 16) : Memref sig .tc .vmem S256x256 .bf16 := xsM.slice (xsR p) (fun _ => rfl)
abbrev xrB (p : Fin 16) : Memref sig .tc .vmem S1x256x256 .bf16 := xrM.slice (xrR p) (fun _ => rfl)
abbrev wbB (s : Fin 6) : Memref sig .tc .vmem S1x256x2048 .f32 := wbM.slice (wbR s) (fun _ => rfl)
abbrev wB (p : Fin 16) : Memref sig .tc .hbm S256x2048 .f32 := wM.slice (wR p) (fun _ => rfl)

/-! ## The cells -/

abbrev barS : Sem sig := (SemArray.scalar (sig.barrier 0 rfl) : Sems sig S_).sem
def sendS (k : Fin 15) : DmaSem sig := ⟨1 + k.val, by have := k.isLt; show 1 + k.val < 39; omega⟩
def recvS (p : Fin 16) : DmaSem sig := ⟨16 + p.val, by have := p.isLt; show 16 + p.val < 39; omega⟩
def slotS (s : Fin 6) : DmaSem sig := ⟨32 + s.val, by have := s.isLt; show 32 + s.val < 39; omega⟩
def outS : DmaSem sig := ⟨38, by decide⟩

abbrev barCell (c : Dev nD) : GSem nD τ sig := ((c : Thread nD τ), .reg barS)
abbrev sendCell (c : Dev nD) (k : Fin 15) : GSem nD τ sig := ((c : Thread nD τ), .dma (sendS k))
abbrev recvCell (c : Dev nD) (p : Fin 16) : GSem nD τ sig := ((c : Thread nD τ), .dma (recvS p))

theorem send_sem {o : Fin 1 → ℕ} (k : Fin 15) (ho : o = ![k.val]) (inb : ∀ a, o a + S1.size a ≤ S15.size a) :
    ((cc0_scratch4.slice (Rect.unit (s := S15) o S1.size inb)).squeeze S_ squeezes_S1_S_).sem = sendS k := by
  subst ho; revert k; decide
theorem recv_sem {o : Fin 1 → ℕ} (p : Fin 16) (ho : o = ![p.val]) (inb : ∀ a, o a + S1.size a ≤ S16.size a) :
    ((cc0_scratch5.slice (Rect.unit (s := S16) o S1.size inb)).squeeze S_ squeezes_S1_S_).sem = recvS p := by
  subst ho; revert p; decide
theorem slot_sem {o : Fin 1 → ℕ} (s : Fin 6) (ho : o = ![s.val]) (inb : ∀ a, o a + S1.size a ≤ S6.size a) :
    ((cc0_scratch6.slice (Rect.unit (s := S6) o S1.size inb)).squeeze S_ squeezes_S1_S_).sem = slotS s := by
  subst ho; revert s; decide
theorem out_sem : cc0_scratch7.sem = outS := by decide

end Cert.Exchange
-- ==== Proof.Sched.lean ====
/-
What is exchanged, under which schedule: the contents of the blocks, the one round of every cell, what each device owes
at launch and the levels.
-/
module

public import proofs.«01_k».proof.Proof.Places

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's rounds, the exchange's (duties numbered), the local copies' counters -/

abbrev UB : Type := URounds (GSem nD τ sig) (Fin 15)
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) :=
  ((Emb.inl : Emb UB (UB × Counters)).trans (Emb.inr : Emb (UB × Counters) UU)).trans
    (uEmb (nD := nD) (τ := τ) (sig := sig) (Ix := Unit) (Val := Elt F) (Name := ℕ) (U := UU) (Lvl := ℕ)).toEmb
abbrev EC : UEmb Counters (MT nD τ sig Unit (Elt F) ℕ UU ℕ) := countersEmb

/-! ## Conjunctions over an interval of indices -/

section Span

variable {M : Type} [URA M] {n : ℕ}

/-- The conjunction of `Φ i` over the indices `a ≤ i < b`. -/
def span (a b : ℕ) (Φ : Fin n → sProp M) : sProp M := bigSep (Finset.univ.filter fun i : Fin n => a ≤ i.val ∧ i.val < b) Φ

theorem span_pop {a b : ℕ} (i : Fin n) (hi : i.val = a) (hab : a < b) (Φ : Fin n → sProp M) :
    span a b Φ = iprop(Φ i ∗ span (a + 1) b Φ) := by
  unfold span
  have hs : (Finset.univ.filter fun j : Fin n => a ≤ j.val ∧ j.val < b)
      = insert i (Finset.univ.filter fun j : Fin n => a + 1 ≤ j.val ∧ j.val < b) := by
    ext j; simp only [Finset.mem_filter, Finset.mem_univ, true_and, Finset.mem_insert, Fin.ext_iff]; omega
  rw [hs]
  exact bigSep_insert (by simp only [Finset.mem_filter, Finset.mem_univ, true_and]; omega)

theorem span_push {a b : ℕ} (i : Fin n) (hi : i.val = b) (hab : a ≤ b) (Φ : Fin n → sProp M) :
    span a (b + 1) Φ = iprop(Φ i ∗ span a b Φ) := by
  unfold span
  have hs : (Finset.univ.filter fun j : Fin n => a ≤ j.val ∧ j.val < b + 1)
      = insert i (Finset.univ.filter fun j : Fin n => a ≤ j.val ∧ j.val < b) := by
    ext j; simp only [Finset.mem_filter, Finset.mem_univ, true_and, Finset.mem_insert, Fin.ext_iff]; omega
  rw [hs]
  exact bigSep_insert (by simp only [Finset.mem_filter, Finset.mem_univ, true_and]; omega)

theorem span_get {a b : ℕ} (i : Fin n) (ha : a ≤ i.val) (hb : i.val < b) (Φ : Fin n → sProp M) :
    span a b Φ ⊢ iprop(Φ i ∗ (Φ i -∗ span a b Φ)) := by
  unfold span
  rw [show bigSep (Finset.univ.filter fun i : Fin n => a ≤ i.val ∧ i.val < b) Φ
      = iprop(Φ i ∗ bigSep ((Finset.univ.filter fun i : Fin n => a ≤ i.val ∧ i.val < b).erase i) Φ) from
    bigSep_erase (by simp only [Finset.mem_filter, Finset.mem_univ, true_and]; omega)]
  iintro ⟨H, HR⟩
  isplitl [H]; · iexact H
  iintro H
  isplitl [H] <;> iassumption

theorem span_all (Φ : Fin n → sProp M) : span 0 n Φ = bigSep Finset.univ Φ := by
  unfold span
  rw [Finset.filter_true_of_mem fun i _ => ⟨Nat.zero_le _, i.isLt⟩]

theorem span_none {a b : ℕ} (h : b ≤ a) (Φ : Fin n → sProp M) : span a b Φ = iprop(emp) := by
  unfold span
  rw [Finset.filter_false_of_mem fun i _ hi => absurd hi.2 (by omega)]
  rfl

theorem span_sep (a b : ℕ) (Φ Ψ : Fin n → sProp M) :
    span a b (fun i => iprop(Φ i ∗ Ψ i)) = iprop(span a b Φ ∗ span a b Ψ) := bigSep_sep' _ _ _

theorem span_mono (a b : ℕ) {Φ Ψ : Fin n → sProp M} (h : ∀ i, Φ i ⊢ Ψ i) : span a b Φ ⊢ span a b Ψ := bigSep_mono fun i _ => h i

end Span

/-! ## Contents -/

variable (m : (ℓ : Loc nD τ sig) → Buf (Elt F) ℓ)

theorem numel_x : S1x256x256.numel = S256x256.numel := by decide
theorem numel_w : S1x256x2048.numel = S256x2048.numel := by decide

/-- Device `c`'s staged block of `x`, and that narrowed. -/
def xstg (c : Dev nD) : Vec F S4096x256 .f32 := (win0_0.blk (0 : Fin 1)).view.read (Elt F) (m ((c : Thread nD τ).loc main_arg0))
def xnar (c : Dev nD) : Vec F S4096x256 .bf16 := k0_pay1 (xstg m c)
/-- The weights on device `c`. -/
def wts (c : Dev nD) : Vec F S4096x2048 .f32 := m ((c : Thread nD τ).loc main_arg1)

/-- What device `a` sends to device `b`: the rows of block `b` of its narrowed `x`; the same as it lies in a slot. -/
def xblk (a b : Dev nD) : Vec F S256x256 .bf16 := fun j => xnar m a ((xsR b).emb j)
def xslot (a b : Dev nD) : Vec F S1x256x256 .bf16 := fun i => xblk m a b (Shape.reshapeEquiv numel_x i)
/-- Row block `p` of device `c`'s weights; the same as it lies in a slot. -/
def wblk (c p : Dev nD) : Vec F S256x2048 .f32 := fun j => wts m c ((wR p).emb j)
def wslot (c p : Dev nD) : Vec F S1x256x2048 .f32 := fun i => wblk m c p (Shape.reshapeEquiv numel_w i)

/-! ## The schedule -/

abbrev N : ℕ := (xrB 0).view.dmaCredit

/-- The landing slot at device `c + ord k` that device `c`'s `k`-th transfer writes, at any contents. -/
def room (c : Dev nD) (k : Fin 15) : sProp 𝕄 := iprop(∃ X, owns ((c + ord k : Dev nD) : Thread nD τ) (xrB c) fullShare X)
/-- Slot `p` of device `c`'s landing buffer, holding what device `p` sent. -/
def landed (c p : Dev nD) : sProp 𝕄 := owns (c : Thread nD τ) (xrB p) fullShare (xslot m p c)
/-- The source of device `c`'s `k`-th transfer. -/
def source (c : Dev nD) (k : Fin 15) : sProp 𝕄 := owns (c : Thread nD τ) (xsB (c + ord k)) fullShare (xblk m c (c + ord k))

instance room_storable (c : Dev nD) (k : Fin 15) : BI.Storable (upEmb : UEmb _ 𝕄) (room (F := F) c k) := by unfold room; infer_instance
instance landed_storable (c p : Dev nD) : BI.Storable (upEmb : UEmb _ 𝕄) (landed (F := F) m c p) := by unfold landed; infer_instance
instance source_storable (c : Dev nD) (k : Fin 15) : BI.Storable (upEmb : UEmb _ 𝕄) (source (F := F) m c k) := by unfold source; infer_instance

/-- What a semaphore is to the exchange. -/
inductive Role where
  | bar
  | send (k : Fin 15)
  | recv (p : Fin 16)
  | none
  deriving DecidableEq

def role : SemLoc sig → Role
  | .reg _ => .bar
  | .dma q => if h : 1 ≤ q.val ∧ q.val < 16 then .send ⟨q.val - 1, by omega⟩
      else if h : 16 ≤ q.val ∧ q.val < 32 then .recv ⟨q.val - 16, by omega⟩ else .none

theorem role_bar : role (.reg barS) = .bar := rfl
theorem role_send (k : Fin 15) : role (.dma (sendS k)) = .send k := by revert k; decide
theorem role_recv (p : Fin 16) : role (.dma (recvS p)) = .recv p := by revert p; decide

def dutiesOf (c : Dev nD) : Role → Finset (Fin 15)
  | .bar => Finset.univ
  | .send _ => {0}
  | .recv p => if p = c then ∅ else {0}
  | .none => ∅
def amountOf' : Role → ℕ
  | .bar => 1
  | _ => N
def payOf (c : Dev nD) : Role → Fin 15 → sProp 𝕄
  | .bar, k => room c k
  | .send k, _ => source m c k
  | .recv p, _ => landed m c p
  | .none, _ => iprop(emp)

theorem N_pos : 0 < N := View.dmaCredit_pos _ (by decide)

/-- One round, round 0: device `c`'s barrier cell has fifteen duties of one unit, the `k`-th paid by the device its
    `k`-th transfer goes to, with the slot it writes; a send cell its source back; a receive cell the block landed. -/
def Rd : Rounds.Schedule (GSem nD τ sig) (Fin 15) 𝕄 where
  duties g r := if r = 0 ∧ g.1.2 = .tc then dutiesOf g.1.1 (role g.2) else ∅
  unitless _ := False
  amount g _ _ := amountOf' (role g.2)
  payload g _ d := payOf m g.1.1 (role g.2) d
  amount_pos g _ _ _ := by
    cases role g.2 <;> first | exact Nat.one_pos | exact N_pos

instance Rd_payload_storable (g : GSem nD τ sig) (r : ℕ) (d : Fin 15) :
    BI.Storable (upEmb : UEmb _ 𝕄) ((Rd (F := F) m).payload g r d) := by
  show BI.Storable upEmb (payOf m g.1.1 (role g.2) d)
  cases role g.2 <;> (unfold payOf; infer_instance)

section Sched
variable (c : Dev nD)

theorem duties_tc (sm : SemLoc sig) : (Rd (F := F) m).duties ((c : Thread nD τ), sm) 0 = dutiesOf c (role sm) := by
  dsimp only [Rd]; exact if_pos ⟨rfl, rfl⟩
theorem duties_bar : (Rd (F := F) m).duties (barCell c) 0 = Finset.univ := duties_tc m c _
theorem duties_send (k : Fin 15) : (Rd (F := F) m).duties (sendCell c k) 0 = {0} := by rw [duties_tc, role_send]; rfl
theorem duties_recv {p : Fin 16} (hp : p ≠ c) : (Rd (F := F) m).duties (recvCell c p) 0 = {0} := by
  rw [duties_tc, role_recv]; exact if_neg hp
theorem duties_self : (Rd (F := F) m).duties (recvCell c c) 0 = ∅ := by
  rw [duties_tc, role_recv]; exact if_pos rfl
theorem duties_later (g : GSem nD τ sig) : ∀ r, 1 ≤ r → (Rd (F := F) m).duties g r = ∅ :=
  fun r hr => by dsimp only [Rd]; exact if_neg fun h => by omega

theorem amount_bar (d : Fin 15) : (Rd (F := F) m).amount (barCell c) 0 d = 1 := rfl
theorem amount_send (k d : Fin 15) : (Rd (F := F) m).amount (sendCell c k) 0 d = N := by
  show amountOf' (role _) = N; rw [role_send]; rfl
theorem amount_recv (p : Fin 16) (d : Fin 15) : (Rd (F := F) m).amount (recvCell c p) 0 d = N := by
  show amountOf' (role _) = N; rw [role_recv]; rfl

theorem expect_bar : (Rd (F := F) m).expect (barCell c) 0 = 15 := by
  unfold Schedule.expect Schedule.amountOf
  rw [duties_bar, Finset.sum_congr rfl fun d _ => amount_bar m c d, Finset.sum_const, Finset.card_univ, Fintype.card_fin, smul_eq_mul]
theorem expect_send (k : Fin 15) : (Rd (F := F) m).expect (sendCell c k) 0 = N := by
  unfold Schedule.expect Schedule.amountOf; rw [duties_send, Finset.sum_singleton, amount_send]
theorem expect_recv {p : Fin 16} (hp : p ≠ c) : (Rd (F := F) m).expect (recvCell c p) 0 = N := by
  unfold Schedule.expect Schedule.amountOf; rw [duties_recv m c hp, Finset.sum_singleton, amount_recv]

theorem payload_bar (k : Fin 15) : (Rd (F := F) m).payload (barCell c) 0 k = room c k := rfl
theorem payload_send (k d : Fin 15) : (Rd (F := F) m).payload (sendCell c k) 0 d = source m c k := by
  show payOf m c (role _) d = _; rw [role_send]; rfl
theorem payload_recv (p : Fin 16) (d : Fin 15) : (Rd (F := F) m).payload (recvCell c p) 0 d = landed m c p := by
  show payOf m c (role _) d = _; rw [role_recv]; rfl

theorem rest_bar : bigSep ((Rd (F := F) m).duties (barCell c) 0 \ ∅) (fun d => (Rd (F := F) m).payload (barCell c) 0 d)
    = span 0 15 (room (F := F) c) := by
  rw [Finset.sdiff_empty, duties_bar, span_all]; rfl
theorem rest_send (k : Fin 15) : bigSep ((Rd (F := F) m).duties (sendCell c k) 0 \ ∅) (fun d => (Rd (F := F) m).payload (sendCell c k) 0 d)
    = source m c k := by
  rw [Finset.sdiff_empty, duties_send, bigSep_singleton, payload_send]
theorem rest_recv {p : Fin 16} (hp : p ≠ c) : bigSep ((Rd (F := F) m).duties (recvCell c p) 0 \ ∅) (fun d => (Rd (F := F) m).payload (recvCell c p) 0 d)
    = landed m c p := by
  rw [Finset.sdiff_empty, duties_recv m c hp, bigSep_singleton, payload_recv]

end Sched

/-! ## What each device owes; the levels -/

/-- The landings still to be paid from the `k`-th transfer on, and the signals from the `j`-th on. -/
def owedSend (c : Dev nD) (k : ℕ) : CellTallies nD τ sig Unit :=
  ∑ i ∈ Finset.univ.filter (fun i : Fin 15 => k ≤ i.val), tallyAt (recvCell (c + ord i) c) () N
def owedSig (c : Dev nD) (j : ℕ) : CellTallies nD τ sig Unit :=
  owedSend c 0 + ∑ i ∈ Finset.univ.filter (fun i : Fin 15 => j ≤ i.val), tallyAt (barCell (c + off i)) () 1

theorem sum_from {A : Type} [AddCommMonoid A] (f : Fin 15 → A) (i : Fin 15) :
    ∑ j ∈ Finset.univ.filter (fun j : Fin 15 => i.val ≤ j.val), f j = (∑ j ∈ Finset.univ.filter (fun j : Fin 15 => i.val + 1 ≤ j.val), f j) + f i := by
  have hs : (Finset.univ.filter fun j : Fin 15 => i.val ≤ j.val) = insert i (Finset.univ.filter fun j : Fin 15 => i.val + 1 ≤ j.val) := by
    ext j; simp only [Finset.mem_filter, Finset.mem_univ, true_and, Finset.mem_insert, Fin.ext_iff]; omega
  rw [hs, Finset.sum_insert (by simp only [Finset.mem_filter, Finset.mem_univ, true_and]; omega), add_comm]

theorem owedSend_step (c : Dev nD) (k : Fin 15) : owedSend c k.val = owedSend c (k.val + 1) + tallyAt (recvCell (c + ord k) c) () N := sum_from _ k
theorem owedSig_step (c : Dev nD) (j : Fin 15) : owedSig c j.val = owedSig c (j.val + 1) + tallyAt (barCell (c + off j)) () 1 := by
  unfold owedSig; rw [sum_from, add_assoc]
theorem owedSend_end (c : Dev nD) : owedSend c 15 = 0 := by
  unfold owedSend
  rw [Finset.filter_false_of_mem fun i _ => by have := i.isLt; omega, Finset.sum_empty]
theorem owedSig_end (c : Dev nD) : owedSig c 15 = owedSend c 0 := by
  unfold owedSig
  rw [Finset.filter_false_of_mem fun i _ => by have := i.isLt; omega, Finset.sum_empty, add_zero]

def L (g : GSem nD τ sig) : Finset Unit := if g.1.2 = .tc then {()} else ∅
/-- Barrier cells at 1, receive cells at 2, everything else at 0. -/
def lv (g : GSem nD τ sig) (_ : Unit) : ℕ :=
  match role g.2 with
  | .bar => 1
  | .recv _ => 2
  | _ => 0

theorem L_of_ne (g : GSem nD τ sig) (h : g.1.2 ≠ .tc) : L g = ∅ := if_neg h
theorem L_tc (c : Dev nD) (sm : SemLoc sig) : L ((c : Thread nD τ), sm) = {()} := if_pos rfl

theorem sum_pos {f : Fin 15 → CellTallies nD τ sig Unit} {s : Finset (Fin 15)} {g : GSem nD τ sig} {u : Unit} (h : 0 < (∑ i ∈ s, f i) g u) :
    ∃ i ∈ s, 0 < f i g u := by
  rw [Finset.sum_apply, Finsupp.finset_sum_apply] at h
  by_contra hn
  exact Nat.ne_of_gt h (Finset.sum_eq_zero fun i hi => Nat.eq_zero_of_not_pos fun hp => hn ⟨i, hi, hp⟩)

theorem tally_pos {g g' : GSem nD τ sig} {u : Unit} {n : ℕ} (h : 0 < tallyAt g' () n g u) : g = g' := by
  rw [tallyAt_apply] at h
  by_contra hn
  rw [if_neg (fun h' => hn h'.1)] at h
  exact Nat.lt_irrefl 0 h

theorem owedSend_pos {c : Dev nD} {k : ℕ} {g : GSem nD τ sig} {u : Unit} (h : 0 < owedSend c k g u) : ∃ e : Dev nD, g = recvCell e c :=
  have ⟨i, _, hi⟩ := sum_pos h
  ⟨c + ord i, tally_pos hi⟩
theorem owedSig_pos {c : Dev nD} {j : ℕ} {g : GSem nD τ sig} {u : Unit} (h : 0 < owedSig c j g u) : ∃ e : Dev nD, g = recvCell e c ∨ g = barCell e := by
  unfold owedSig at h
  rw [Pi.add_apply, Finsupp.add_apply] at h
  rcases Nat.eq_zero_or_pos (owedSend c 0 g u) with h0 | h0
  · rw [h0, zero_add] at h
    obtain ⟨i, _, hi⟩ := sum_pos h
    exact ⟨c + off i, .inr (tally_pos hi)⟩
  · obtain ⟨e, he⟩ := owedSend_pos h0
    exact ⟨e, .inl he⟩

theorem lv_recv (c : Dev nD) (p : Fin 16) (u : Unit) : lv (recvCell c p) u = 2 := by
  show (match role (.dma (recvS p)) with | .bar => 1 | .recv _ => 2 | _ => 0) = 2; rw [role_recv]
theorem lv_bar (c : Dev nD) (u : Unit) : lv (barCell c) u = 1 := rfl

/-- A wait on a staging cell, owing everything or nothing. -/
theorem mayWait_stage (c : Dev nD) (q : DmaSem sig) (hq : role (.dma q) = .none) (O : CellTallies nD τ sig Unit) (hO : O = owedSig c 0 ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by obtain ⟨e, rfl | rfl⟩ := owedSig_pos hg <;> exact Finset.mem_singleton_self _)
      (fun p hp => by rw [Finset.mem_singleton.mp hp]; show (match role (.dma q) with | .bar => 1 | .recv _ => 2 | _ => 0) ≤ 0; rw [hq])
      (fun g u hg => by
        obtain ⟨e, rfl | rfl⟩ := owedSig_pos hg
        · rw [lv_recv]; decide
        · rw [lv_bar]; decide)
  · rw [MayWait_zero]; iintro -; iempintro

/-- At its barrier wait a device owes landings only: receive cells, above its barrier cell. -/
theorem mayWait_bar (c : Dev nD) : (levAts L lv : sProp 𝕄) ⊢ MayWait (c : Thread nD τ) (.reg barS) () (owedSend c 0) :=
  MayOwe.of_cut (L := L) (lev := lv) 1 (fun p hp => by rw [Finset.mem_singleton.mp hp, L_tc]; exact Finset.mem_singleton_self _)
    (fun g u hg => by obtain ⟨e, rfl⟩ := owedSend_pos hg; rw [L_tc]; exact Finset.mem_singleton_self _)
    (fun p hp => by rw [Finset.mem_singleton.mp hp]; exact le_of_eq (lv_bar c ()))
    (fun g u hg => by obtain ⟨e, rfl⟩ := owedSend_pos hg; rw [lv_recv]; decide)

end Cert.Exchange
-- ==== Proof.Steps.lean ====
/-
One lemma per kind of step the kernel takes: a signal, the entry wait, a transfer to another device, the start and the wait
of a weights copy, the wait for a landing, the loads, the wait that takes a transfer's source back.
-/
module

public import proofs.«01_k».proof.Proof.Sched

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-- The weakest precondition of device `c`'s program. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## The cells' invariants, common to all devices -/

/-- The scheduled cells of a device: its barrier's, its fifteen send cells, its sixteen receive cells. -/
def csem (i : Fin 32) : SemLoc sig := if i.val = 0 then .reg barS else .dma ⟨i.val, by have := i.isLt; show i.val < 39; omega⟩
abbrev kcell (ck : Dev nD × Fin 32) : GSem nD τ sig := ((ck.1 : Thread nD τ), csem ck.2)
def ixSend (k : Fin 15) : Fin 32 := ⟨1 + k.val, by omega⟩
def ixRecv (p : Fin 16) : Fin 32 := ⟨16 + p.val, by omega⟩
theorem csem_send (k : Fin 15) : csem (ixSend k) = .dma (sendS k) := by revert k; decide
theorem csem_recv (p : Fin 16) : csem (ixRecv p) = .dma (recvS p) := by revert p; decide

/-- All the cells' invariants, that each has reached round 0, and the levels: nothing here is used up. -/
def ctx (K : Dev nD × Fin 32 → ℕ) : sProp 𝕄 :=
  iprop((bigSep Finset.univ fun ck => cellInv ER (Rd m) (K ck) (kcell ck)) ∗ (bigSep Finset.univ fun ck => reached ER (kcell ck) 0)
    ∗ levAts L lv)

instance ctx_persistent (K : Dev nD × Fin 32 → ℕ) : BI.Persistent (ctx m K) := by unfold ctx; infer_instance

variable (K : Dev nD × Fin 32 → ℕ)

theorem cells_elim (ck : Dev nD × Fin 32) :
    (bigSep Finset.univ fun ck => cellInv ER (Rd m) (K ck) (kcell ck)) ⊢ (cellInv ER (Rd m) (K ck) (kcell ck) : sProp 𝕄) :=
  bigSep_elim (Finset.mem_univ ck)
theorem reached_elim (ck : Dev nD × Fin 32) :
    (bigSep Finset.univ fun ck => reached ER (kcell ck) 0) ⊢ (reached ER (kcell ck) 0 : sProp 𝕄) :=
  bigSep_elim (Finset.mem_univ ck)

theorem ctx_cell (ck : Dev nD × Fin 32) {g : GSem nD τ sig} (hg : kcell ck = g) :
    ctx m K ⊢ iprop(cellInv ER (Rd m) (K ck) g ∗ reached ER g 0) := by
  subst hg
  unfold ctx
  iintro ⟨#HI, #HR, -⟩
  isplitr
  · iapply (cells_elim m K ck); iexact HI
  · iapply (reached_elim (F := F) ck); iexact HR
theorem ctx_bar (e : Dev nD) : ctx m K ⊢ iprop(cellInv ER (Rd m) (K (e, 0)) (barCell e) ∗ reached ER (barCell e) 0) := ctx_cell m K (e, 0) rfl
theorem ctx_send (e : Dev nD) (k : Fin 15) : ctx m K ⊢ iprop(cellInv ER (Rd m) (K (e, ixSend k)) (sendCell e k) ∗ reached ER (sendCell e k) 0) :=
  ctx_cell m K (e, ixSend k) (by show ((e : Thread nD τ), csem (ixSend k)) = _; rw [csem_send])
theorem ctx_recv (e : Dev nD) (p : Fin 16) : ctx m K ⊢ iprop(cellInv ER (Rd m) (K (e, ixRecv p)) (recvCell e p) ∗ reached ER (recvCell e p) 0) :=
  ctx_cell m K (e, ixRecv p) (by show ((e : Thread nD τ), csem (ixRecv p)) = _; rw [csem_recv])
theorem ctx_lev : ctx m K ⊢ iprop(emp ∗ levAts L lv) := by
  unfold ctx
  iintro ⟨-, -, #H⟩
  isplitr; · iempintro
  iexact H

/-- What a device owes, whatever it has waited on. -/
def owing (c : Dev nD) (O : CellTallies nD τ sig Unit) : sProp 𝕄 := iprop(∃ W, owes (c : Thread nD τ) O W)

/-! ## The entry handshake -/

/-- From the `j`-th signal on: the landing slots still to be handed out, each with the duty it pays. -/
def SigSt (c : Dev nD) (j : ℕ) : sProp 𝕄 :=
  iprop(ctx m K ∗ owing c (owedSig c j)
    ∗ span j 15 fun i : Fin 15 => iprop(dutyTok ER (barCell (c + off i)) 0 (back i) ∗ ∃ X, owns (c : Thread nD τ) (xrB (c + off i)) fullShare X))

theorem wp_sig (c : Dev nD) (j : Fin 15) (n₀ : ℕ) (h₀ : n₀ = j.val) {n : Dev nD} (hn : n = c + off j) {a : ℤ} (ha : a = 1) {α : Type} {Q : α → sProp 𝕄}
    {k : PUnit → Prog (TpuEff nD τ sig (Elt F) Λ₀ .tc) α} :
    SigSt m K c n₀ ⊢ iprop((SigSt m K c (n₀ + 1) -∗ run c (k ⟨⟩) Q) -∗ run c (.op (.semSignal (n : Thread nD τ) barS a) k) Q) := by
  subst h₀ hn ha
  unfold SigSt owing
  rw [span_pop (a := j.val) (b := 15) j rfl j.isLt]
  iintro ⟨#HC, ⟨%W, HO⟩, ⟨Ht, Hx⟩, Hrest⟩ Hk
  ihave HI := ctx_bar m K (c + off j) $$ HC
  icases HI with ⟨#HI, #HR⟩
  iapply (Rounds.wp_signal 𝒱₀ ER (Rd m) (c : Thread nD τ) none (dst := ((c + off j : Dev nD) : Thread nD τ)) (κ := K (c + off j, 0))
      (d := back j) (by rw [duties_bar]; exact Finset.mem_univ _) (amount_bar m (c + off j) (back j)) () (owedSig c (j.val + 1)) (owedSig_step c j))
    $$ [HO Ht Hx]
  · isplitr; · iexact HI
    isplitl [HO]; · iexact HO
    isplitl [Ht]; · iexact Ht
    isplitl [Hx]
    · rw [payload_bar]; unfold room; rw [off_add_back]; iexact Hx
    · iexact HR
  iintro HO
  iapply Hk
  isplitr; · iexact HC
  isplitl [HO]; · iexists W; iexact HO
  iexact Hrest

theorem wp_enter (c : Dev nD) {a : ℕ} (ha : a = 15) {α : Type} {Q : α → sProp 𝕄}
    {k : PUnit → Prog (TpuEff nD τ sig (Elt F) Λ₀ .tc) α} :
    iprop(SigSt m K c 15 ∗ cred (tallyAt (barCell c) () 15) ∗ atPos ER (barCell c) 0 ∅ 0)
      ⊢ iprop(((ctx m K ∗ owing c (owedSend c 0) ∗ atPos ER (barCell c) 1 ∅ 0 ∗ span 0 15 (room (F := F) c)) -∗ run c (k ⟨⟩) Q)
          -∗ run c (.op (.semWait barS a) k) Q) := by
  subst ha
  unfold SigSt owing
  rw [owedSig_end]
  iintro ⟨⟨#HC, ⟨%W, HO⟩, -⟩, Hcr, Hat⟩ Hk
  ihave HI := ctx_bar m K c $$ HC
  icases HI with ⟨#HI, #HR⟩
  ihave HL := (ctx_lev m K) $$ HC
  icases HL with ⟨-, #HL⟩
  iapply (Rounds.wp_wait_rest_token 𝒱₀ ER (Rd m) (c : Thread nD τ) none (κ := K (c, 0))
      (wpE_semWait_eq 𝒱₀ (c : Thread nD τ) none Set.univ) (Set.mem_univ _) () (O := owedSend c 0) (W := W) (R := 0) (m := 0) (T := ∅)
      ((Nat.zero_add _).trans (expect_bar m c).symm)) $$ [Hcr HO Hat]
  · isplitr; · iexact HI
    isplitl [Hcr]; · iexact Hcr
    isplitl [HO]; · iexact HO
    isplitr; · iapply (mayWait_bar c); iexact HL
    iexact Hat
  iintro ⟨HO, Hat, -, Hpay⟩
  ihave Hp := (Entails.of_eq (rest_bar m c)) $$ Hpay
  iapply Hk
  isplitr; · iexact HC
  isplitl [HO]; · iexists (insert (SemLoc.reg barS, ()) W); iexact HO
  isplitl [Hat]; · iexact Hat
  iexact Hp

/-! ## The transfers to the other devices -/

/-- A write through a squeezed view leaves the unsqueezed one holding the payload re-indexed. -/
theorem owns_squeeze_write (c : Dev nD) {sp : Space} {s s' : Shape} {e : EltTy} (M : Memref sig .tc sp s e) (sq : s.Squeezes s') (h : s.numel = s'.numel)
    (fd : M.view.ty.Contents (Elt F)) (w : s'.Idx → Elt F e) :
    (((M.squeeze s' sq).view.loc (c : Thread nD τ)) ↦[(M.squeeze s' sq).view.set]{fullShare} ((M.squeeze s' sq).view.write (Elt F) fd w Finset.univ) : sProp 𝕄)
      ⊢ owns (c : Thread nD τ) M fullShare (fun i => w (Shape.reshapeEquiv h i)) := by
  have h₁ : (M.squeeze s' sq).view.write (Elt F) fd w Finset.univ = M.view.write (Elt F) fd (fun i => w (Shape.reshapeEquiv h i)) Finset.univ := by
    refine (View.write_reshape_univ (v := M.view) sq.numel_eq fd w).trans ?_
    rw [Shape.reshapeEquiv_symm]
  have h₂ : (M.squeeze s' sq).view.set = M.view.set := View.set_reshape M.view sq.numel_eq
  rw [h₁, h₂]
  unfold owns
  iintro H
  iexists _
  isplitr
  · ipureintro; exact View.read_write_univ fd _
  · iexact H

/-- Squeezing a view keeps its elements. -/
theorem squeeze_pts (c : Dev nD) {sp : Space} {s s' : Shape} {e : EltTy} (M : Memref sig .tc sp s e) (sq : s.Squeezes s') (fd : M.view.ty.Contents (Elt F)) :
    (M.view.loc (c : Thread nD τ) ↦[M.view.set]{fullShare} fd : sProp 𝕄)
      = (((M.squeeze s' sq).view.loc (c : Thread nD τ)) ↦[(M.squeeze s' sq).view.set]{fullShare} fd) := by
  have h₂ : (M.squeeze s' sq).view.set = M.view.set := View.set_reshape M.view sq.numel_eq
  rw [h₂]

/-- A block credits the same whether its leading axis of size one is kept or dropped. -/
theorem credit_x : RefSig.tileCredit S256x256 .bf16 = N := by decide +kernel

/-- From the `k`-th transfer on: what each of the rest needs, and what the earlier ones left to wait for. -/
def SendSt (c : Dev nD) (k : ℕ) : sProp 𝕄 :=
  iprop(ctx m K ∗ owing c (owedSend c k)
    ∗ (span k 15 fun i : Fin 15 => iprop(dutyTok ER (recvCell (c + ord i) c) 0 0 ∗ dutyTok ER (sendCell c i) 0 0 ∗ room c i ∗ source m c i))
    ∗ (span 0 k fun i : Fin 15 => cred (tallyAt (sendCell c i) () N)))

theorem wp_send (c : Dev nD) (k : Fin 15) (n₀ : ℕ) (h₀ : n₀ = k.val) {n : Dev nD} (hn : n = c + ord k) {o₁ : Fin 2 → ℕ} (ho₁ : o₁ = ![256 * (c + ord k).val, 0])
    {o₂ : Fin 3 → ℕ} (ho₂ : o₂ = ![c.val, 0, 0]) {qS qR : DmaSem sig} (hS : qS = sendS k) (hR : qR = recvS c)
    {i₁ : ∀ a, o₁ a + S256x256.size a ≤ S4096x256.size a} {u₁ : ∀ a, (Rect.unit (s := S4096x256) o₁ S256x256.size i₁).stride a = 1}
    {i₂ : ∀ a, o₂ a + S1x256x256.size a ≤ S16x256x256.size a} {u₂ : ∀ a, (Rect.unit (s := S16x256x256) o₂ S1x256x256.size i₂).stride a = 1}
    {hsc : ((xrM.slice (Rect.unit (s := S16x256x256) o₂ S1x256x256.size i₂) u₂).squeeze S256x256 squeezes_S1x256x256_S256x256).view.ref.isScScratch = false}
    {hsrc : (xsM.slice (Rect.unit (s := S4096x256) o₁ S256x256.size i₁) u₁).view.WordExact}
    {hdst : ((xrM.slice (Rect.unit (s := S16x256x256) o₂ S1x256x256.size i₂) u₂).squeeze S256x256 squeezes_S1x256x256_S256x256).view.WordExact}
    {hsem : DmaTarget.Typed .vmem (.dma qR) (.remote (Dev.tc n : Thread nD τ)
      ((xrM.slice (Rect.unit (s := S16x256x256) o₂ S1x256x256.size i₂) u₂).squeeze S256x256 squeezes_S1x256x256_S256x256) (.dma qS) hsc)}
    {α : Type} {Q : α → sProp 𝕄} {kont : PUnit → Prog (TpuEff nD τ sig (Elt F) Λ₀ .tc) α} :
    SendSt m K c n₀ ⊢ iprop((SendSt m K c (n₀ + 1) -∗ run c (kont ⟨⟩) Q)
      -∗ run c (.op (.enqueueDma (xsM.slice (Rect.unit (s := S4096x256) o₁ S256x256.size i₁) u₁)
          (.remote (Dev.tc n : Thread nD τ) ((xrM.slice (Rect.unit (s := S16x256x256) o₂ S1x256x256.size i₂) u₂).squeeze S256x256 squeezes_S1x256x256_S256x256) (.dma qS) hsc)
          (.dma qR) hsrc hdst hsem) kont) Q) := by
  subst h₀ hn ho₁ ho₂ hS hR
  unfold SendSt owing
  rw [span_pop (a := k.val) (b := 15) k rfl k.isLt, span_push (a := 0) (b := k.val) k rfl (Nat.zero_le _)]
  iintro ⟨#HC, ⟨%W, HO⟩, ⟨⟨Ht₂, Ht₁, Hroom, Hsrc⟩, Hrest⟩, Hcr⟩ Hk
  ihave HI₁ := ctx_send m K c k $$ HC
  icases HI₁ with ⟨#HI₁, #HR₁⟩
  ihave HI₂ := ctx_recv m K (c + ord k) c $$ HC
  icases HI₂ with ⟨#HI₂, #HR₂⟩
  unfold room source owns
  icases Hroom with ⟨%X, %fd, -, Hd⟩
  icases Hsrc with ⟨%fs, %hfs, Hs⟩
  ihave Hd := (Entails.of_eq (squeeze_pts (c + ord k) (xrB c) squeezes_S1x256x256_S256x256 fd)) $$ Hd
  iapply (Rounds.wp_send_pointsTo 𝒱₀ ER (Rd m) (c : Thread nD τ) none (κ₁ := K (c, ixSend k)) (κ₂ := K (c + ord k, ixRecv c))
      (r₁ := 0) (r₂ := 0) (d₁ := 0) (d₂ := 0) (fd := fd) (fs := fs) (q := fullShare)
      (c' := ((c + ord k : Dev nD) : Thread nD τ)) (src := xsB (c + ord k)) (dst := (xrB c).squeeze S256x256 squeezes_S1x256x256_S256x256) (sS := .dma (sendS k)) (sem := .dma (recvS c))
      (by rw [duties_send]; exact Finset.mem_singleton_self _) (by rw [duties_recv m (c + ord k) (ord_ne k c).symm]; exact Finset.mem_singleton_self _)
      () () N credit_x (amount_send m c k 0) (amount_recv m (c + ord k) c 0) (owedSend c (k.val + 1)) (owedSend_step c k) (W := W)
      (by
        rw [payload_send]; unfold source owns
        iintro H; iexists fs; isplitr
        · ipureintro; exact hfs
        · iexact H)
      (by
        rw [payload_recv]; unfold landed
        refine (owns_squeeze_write (c + ord k) (xrB c) squeezes_S1x256x256_S256x256 numel_x fd _).trans (Entails.of_eq ?_)
        rw [hfs]; rfl)) $$ [HO Ht₁ Ht₂ Hs Hd]
  · isplitr; · iexact HI₁
    isplitr; · iexact HI₂
    isplitl [Hs]; · iexact Hs
    isplitl [Hd]; · iexact Hd
    isplitl [HO]; · iexact HO
    isplitl [Ht₁]; · iexact Ht₁
    isplitr; · iexact HR₁
    isplitl [Ht₂]; · iexact Ht₂
    iexact HR₂
  iintro ⟨Hc, HO⟩
  iapply Hk
  isplitr; · iexact HC
  isplitl [HO]; · iexists W; iexact HO
  isplitl [Hrest]; · iexact Hrest
  isplitl [Hc] <;> iassumption

/-! ## The weights -/

abbrev NW : ℕ := RefSig.tileCredit S256x2048 .f32
theorem NW_pos : 0 < NW := by decide +kernel

/-- The slot the `t`-th copy of weights goes through. -/
def slot (t : ℕ) : Fin 6 := ⟨t % 6, Nat.mod_lt _ (by decide)⟩

/-- The `t`-th copy's source; what it delivers; the copy in flight; slot `u` (taken by copy `u` next, last filled by copy `u - 6`). -/
def wsrc (c : Dev nD) (t : Fin 16) : sProp 𝕄 := owns (c : Thread nD τ) (wB (c - t)) fullShare (wblk m c (c - t))
def wfly (c : Dev nD) (t : Fin 16) : sProp 𝕄 :=
  Transfers.Flight EC (c : Thread nD τ) (.dma (slotS (slot t.val))) () NW
    iprop(owns (c : Thread nD τ) (wbB (slot t.val)) fullShare (wslot m c (c - t)) ∗ wsrc m c t)
def widle (c : Dev nD) (u : Fin 22) : sProp 𝕄 :=
  iprop(semVal ((c : Thread nD τ), .dma (slotS (slot u.val))) 0
    ∗ ∃ X, ⌜∀ t : Fin 16, t.val + 6 = u.val → X = wslot m c (c - t)⌝ ∗ owns (c : Thread nD τ) (wbB (slot u.val)) fullShare X)

theorem widle_mk (c : Dev nD) (t : Fin 16) (h : t.val < 22) : widle m c ⟨t.val, h⟩ = iprop(semVal ((c : Thread nD τ), .dma (slotS (slot t.val))) 0
    ∗ ∃ X, ⌜∀ t' : Fin 16, t'.val + 6 = t.val → X = wslot m c (c - t')⌝ ∗ owns (c : Thread nD τ) (wbB (slot t.val)) fullShare X) := rfl

/-- The slot the copy `t` has filled. -/
def wfull (c : Dev nD) (t : Fin 16) : sProp 𝕄 :=
  iprop(semVal ((c : Thread nD τ), .dma (slotS (slot t.val))) 0 ∗ owns (c : Thread nD τ) (wbB (slot t.val)) fullShare (wslot m c (c - t)))

theorem widle_full (c : Dev nD) (t : Fin 16) (h : t.val + 6 < 22) : widle m c ⟨t.val + 6, h⟩ = wfull m c t := by
  have hs : slot (t.val + 6) = slot t.val := Fin.ext (Nat.add_mod_right _ _)
  have h₁ : widle m c ⟨t.val + 6, h⟩ ⊢ wfull m c t := by
    unfold widle wfull
    dsimp only
    rw [hs]
    iintro ⟨Hv, %X, %hX, Hd⟩
    obtain rfl := hX t rfl
    isplitl [Hv] <;> iassumption
  have h₂ : wfull m c t ⊢ widle m c ⟨t.val + 6, h⟩ := by
    unfold widle wfull
    dsimp only
    rw [hs]
    iintro ⟨Hv, Hd⟩
    isplitl [Hv]; · iexact Hv
    iexists _
    isplitr
    · ipureintro
      intro t' ht'
      rw [show t' = t from Fin.ext (by omega)]
    · iexact Hd
  exact BI.Entails.antisymm h₁ h₂

theorem owns_elim (c : Dev nD) {sp : Space} {s : Shape} {e : EltTy} (M : Memref sig .tc sp s e) (X : s.Idx → Elt F e) :
    (owns (c : Thread nD τ) M fullShare X : sProp 𝕄)
      ⊢ iprop(∃ f, ⌜M.view.read (Elt F) f = X⌝ ∗ (M.view.loc (c : Thread nD τ) ↦[M.view.set]{fullShare} f)) := .rfl

/-- `a` copies started, `b` of them waited for. -/
def WSt (c : Dev nD) (a b : ℕ) : sProp 𝕄 :=
  iprop(span a 16 (wsrc m c) ∗ span b a (wfly m c) ∗ span a (b + 6) (widle m c) ∗ span 0 b (wsrc m c))

/-! ## The landings -/

/-- `r` landings waited for. -/
def Rcv (c : Dev nD) (r : ℕ) : sProp 𝕄 :=
  iprop((span r 15 fun t : Fin 15 => iprop(cred (tallyAt (recvCell c (c - off t)) () N) ∗ atPos ER (recvCell c (c - off t)) 0 ∅ 0))
    ∗ (span 0 r fun t : Fin 15 => iprop(atPos ER (recvCell c (c - off t)) 1 ∅ 0 ∗ landed m c (c - off t))))

/-- The state while the products are accumulated: nothing is owed any more, the accumulator holds `A`. -/
def Mid (c : Dev nD) (a b r : ℕ) (A : Vec F S256x2048 .f32) : sProp 𝕄 :=
  iprop(ctx m K ∗ owing c 0 ∗ WSt m c a b ∗ Rcv m c r ∗ owns (c : Thread nD τ) acM fullShare A)

section Steps
variable (c : Dev nD) {A : Vec F S256x2048 .f32}

/-- The start of the copy `t` from row block `c - t` of the weights. -/
theorem wp_wstart (t : Fin 16) (n₀ : ℕ) (h₀ : n₀ = t.val) {b r : ℕ} (hb : n₀ < b + 6) (hbt : b ≤ n₀) {o₁ : Fin 2 → ℕ} (ho₁ : o₁ = ![256 * (c - t).val, 0])
    {o₂ : Fin 3 → ℕ} (ho₂ : o₂ = ![(slot t.val).val, 0, 0]) {q : DmaSem sig} (hq : q = slotS (slot t.val))
    {i₁ : ∀ a, o₁ a + S256x2048.size a ≤ S4096x2048.size a} {u₁ : ∀ a, (Rect.unit (s := S4096x2048) o₁ S256x2048.size i₁).stride a = 1}
    {i₂ : ∀ a, o₂ a + S1x256x2048.size a ≤ S6x256x2048.size a} {u₂ : ∀ a, (Rect.unit (s := S6x256x2048) o₂ S1x256x2048.size i₂).stride a = 1}
    {hsrc : (wM.slice (Rect.unit (s := S4096x2048) o₁ S256x2048.size i₁) u₁).view.WordExact}
    {hdst : ((wbM.slice (Rect.unit (s := S6x256x2048) o₂ S1x256x2048.size i₂) u₂).squeeze S256x2048 squeezes_S1x256x2048_S256x2048).view.WordExact}
    {hsem : DmaTarget.Typed .hbm (.dma q)
      (.here ((wbM.slice (Rect.unit (s := S6x256x2048) o₂ S1x256x2048.size i₂) u₂).squeeze S256x2048 squeezes_S1x256x2048_S256x2048) : DmaTarget nD τ sig .tc .vmem S256x2048 .f32)}
    {α : Type} {Q : α → sProp 𝕄} {kont : PUnit → Prog (TpuEff nD τ sig (Elt F) Λ₀ .tc) α} :
    Mid m K c n₀ b r A ⊢ iprop((Mid m K c (n₀ + 1) b r A -∗ run c (kont ⟨⟩) Q)
      -∗ run c (.op (.enqueueDma (wM.slice (Rect.unit (s := S4096x2048) o₁ S256x2048.size i₁) u₁)
          (.here ((wbM.slice (Rect.unit (s := S6x256x2048) o₂ S1x256x2048.size i₂) u₂).squeeze S256x2048 squeezes_S1x256x2048_S256x2048))
          (.dma q) hsrc hdst hsem) kont) Q) := by
  subst h₀ ho₁ ho₂ hq
  unfold Mid WSt
  rw [span_pop (a := t.val) (b := 16) t rfl t.isLt, span_push (a := b) (b := t.val) t rfl hbt,
    span_pop (a := t.val) (b := b + 6) (⟨t.val, by have := t.isLt; omega⟩ : Fin 22) rfl hb]
  iintro ⟨#HC, HO, ⟨⟨Hs, Hsrc⟩, Hfly, ⟨Hi, Hidle⟩, Hback⟩, Hrcv, Hacc⟩ Hk
  ihave Hi := (Entails.of_eq (widle_mk m c t _)) $$ Hi
  icases Hi with ⟨Hv, %X, -, Hd⟩
  ihave Hd := (owns_elim c (wbB (slot t.val)) X) $$ Hd
  icases Hd with ⟨%fd, -, Hd⟩
  ihave Hs := (show wsrc m c t ⊢ _ from owns_elim c (wB (c - t)) (wblk m c (c - t))) $$ Hs
  icases Hs with ⟨%fs, %hfs, Hs⟩
  ihave Hd := (Entails.of_eq (squeeze_pts c (wbB (slot t.val)) squeezes_S1x256x2048_S256x2048 fd)) $$ Hd
  iapply (Transfers.wp_dmaLocal EC 𝒱₀ (c : Thread nD τ) none (src := wB (c - t)) (dst := (wbB (slot t.val)).squeeze S256x2048 squeezes_S1x256x2048_S256x2048)
      (sm := .dma (slotS (slot t.val))) (q := fullShare) (fs := fs) (fd := fd) () NW rfl NW_pos Finset.Subset.rfl) $$ [Hs Hd Hv]
  · isplitl [Hs]; · iexact Hs
    isplitl [Hd]; · iexact Hd
    iexact Hv
  iintro Hf
  iapply Hk
  isplitr; · iexact HC
  isplitl [HO]; · iexact HO
  isplitr [Hrcv Hacc]
  · isplitl [Hsrc]; · iexact Hsrc
    isplitl [Hf Hfly]
    · isplitl [Hf]
      · unfold wfly wsrc owns
        iapply (Transfers.Flight_mono EC (c : Thread nD τ) ?_) $$ Hf
        iintro ⟨Hd, Hs⟩
        isplitl [Hd]
        · ihave Hd := (owns_squeeze_write c (wbB (slot t.val)) squeezes_S1x256x2048_S256x2048 numel_w fd _) $$ Hd
          unfold owns
          icases Hd with ⟨%f, %hf, Hd⟩
          iexists f
          isplitr
          · ipureintro; rw [hf]; show (fun i => (wB (c - t)).view.read (Elt F) fs (Shape.reshapeEquiv numel_w i)) = _; rw [hfs]; rfl
          · iexact Hd
        · iexists fs
          isplitr
          · ipureintro; exact hfs
          · iexact Hs
      · iexact Hfly
    isplitl [Hidle]; · iexact Hidle
    iexact Hback
  · isplitl [Hrcv]; · iexact Hrcv
    iexact Hacc

/-- The wait for the copy `t`. -/
theorem wp_wwait (t : Fin 16) (n₀ : ℕ) (h₀ : n₀ = t.val) {a r : ℕ} (ha : n₀ < a) (hu : a ≤ n₀ + 6) {q : DmaSem sig} (hq : q = slotS (slot t.val))
    {o₁ : Fin 2 → ℕ} {o₂ : Fin 3 → ℕ}
    {i₁ : ∀ a, o₁ a + S256x2048.size a ≤ S4096x2048.size a} {u₁ : ∀ a, (Rect.unit (s := S4096x2048) o₁ S256x2048.size i₁).stride a = 1}
    {i₂ : ∀ a, o₂ a + S1x256x2048.size a ≤ S6x256x2048.size a} {u₂ : ∀ a, (Rect.unit (s := S6x256x2048) o₂ S1x256x2048.size i₂).stride a = 1}
    {hsrc : (wM.slice (Rect.unit (s := S4096x2048) o₁ S256x2048.size i₁) u₁).view.WordExact}
    {hdst : ((wbM.slice (Rect.unit (s := S6x256x2048) o₂ S1x256x2048.size i₂) u₂).squeeze S256x2048 squeezes_S1x256x2048_S256x2048).view.WordExact}
    {α : Type} {Q : α → sProp 𝕄} {kont : PUnit → Prog (TpuEff nD τ sig (Elt F) Λ₀ .tc) α} :
    Mid m K c a n₀ r A ⊢ iprop((Mid m K c a (n₀ + 1) r A -∗ run c (kont ⟨⟩) Q)
      -∗ run c (.op (.waitDma2 q (wM.slice (Rect.unit (s := S4096x2048) o₁ S256x2048.size i₁) u₁)
          ((wbM.slice (Rect.unit (s := S6x256x2048) o₂ S1x256x2048.size i₂) u₂).squeeze S256x2048 squeezes_S1x256x2048_S256x2048) hsrc hdst) kont) Q) := by
  subst h₀ hq
  have ht := t.isLt
  unfold Mid WSt owing
  rw [span_pop (a := t.val) (b := a) t rfl ha, span_push (a := 0) (b := t.val) t rfl (Nat.zero_le _),
    show t.val + 1 + 6 = (t.val + 6) + 1 by omega,
    span_push (a := a) (b := t.val + 6) (⟨t.val + 6, by omega⟩ : Fin 22) rfl hu, widle_full]
  iintro ⟨#HC, ⟨%W, HO⟩, ⟨Hsrc, ⟨Hf, Hfly⟩, Hidle, Hback⟩, Hrcv, Hacc⟩ Hk
  iapply (Transfers.wp_waitLocal EC 𝒱₀ (c : Thread nD τ) none () (N := NW) rfl
      (D := iprop(owns (c : Thread nD τ) (wbB (slot t.val)) fullShare (wslot m c (c - t)) ∗ wsrc m c t)) (W := W)) $$ [Hf HO]
  · isplitl [Hf]; · unfold wfly; iexact Hf
    iexact HO
  iintro ⟨⟨Hd, Hs⟩, Hv, HO⟩
  iapply Hk
  isplitr; · iexact HC
  isplitl [HO]; · iexists _; iexact HO
  isplitr [Hrcv Hacc]
  · isplitl [Hsrc]; · iexact Hsrc
    isplitl [Hfly]; · iexact Hfly
    isplitl [Hv Hd Hidle]
    · isplitl [Hv Hd]
      · unfold wfull
        isplitl [Hv]; · iexact Hv
        iexact Hd
      · iexact Hidle
    isplitl [Hs]; · iexact Hs
    iexact Hback
  · isplitl [Hrcv]; · iexact Hrcv
    iexact Hacc

/-- The load of the slot the copy `t` filled. -/
theorem wp_wload (t : Fin 16) {a b r : ℕ} (hb : t.val < b) (ha : a ≤ t.val + 6) {o₂ : Fin 3 → ℕ} (ho₂ : o₂ = ![(slot t.val).val, 0, 0])
    {i₂ : ∀ a, o₂ a + S1x256x2048.size a ≤ S6x256x2048.size a} {hl : wbM.view.LoadsAt (Rect.unit (s := S6x256x2048) o₂ S1x256x2048.size i₂).toLoadRect}
    {α : Type} {Q : α → sProp 𝕄} {kont : Vec F S1x256x2048 .f32 → Prog (TpuEff nD τ sig (Elt F) Λ₀ .tc) α} :
    Mid m K c a b r A ⊢ iprop((Mid m K c a b r A -∗ run c (kont (wslot m c (c - t))) Q)
      -∗ run c (.op (.load wbM (Rect.unit (s := S6x256x2048) o₂ S1x256x2048.size i₂).toLoadRect hl) kont) Q) := by
  subst ho₂
  have ht := t.isLt
  unfold Mid WSt
  iintro ⟨#HC, HO, ⟨Hsrc, Hfly, Hidle, Hback⟩, Hrcv, Hacc⟩ Hk
  ihave Hi := (span_get (a := a) (b := b + 6) (⟨t.val + 6, by omega⟩ : Fin 22) (by dsimp only; omega) (by dsimp only; omega) (widle m c)) $$ Hidle
  rw [widle_full]
  icases Hi with ⟨Hi, Hidle⟩
  unfold wfull
  icases Hi with ⟨Hv, Hd⟩
  ihave Hd := (owns_elim c (wbB (slot t.val)) (wslot m c (c - t))) $$ Hd
  icases Hd with ⟨%f, %hf, Hd⟩
  iapply (wp_load_rect 𝒱₀ (c : Thread nD τ) none Set.univ (m := wbM) (r := wbR (slot t.val)) Finset.Subset.rfl) $$ Hd
  iintro Hd
  rw [show (wbM.access (wbR (slot t.val))).read (Elt F) f = wslot m c (c - t) from hf]
  iapply Hk
  isplitr; · iexact HC
  isplitl [HO]; · iexact HO
  isplitr [Hrcv Hacc]
  · isplitl [Hsrc]; · iexact Hsrc
    isplitl [Hfly]; · iexact Hfly
    isplitr [Hback]
    · iapply Hidle
      isplitl [Hv]; · iexact Hv
      unfold owns
      iexists f
      isplitr
      · ipureintro; exact hf
      · iexact Hd
    · iexact Hback
  · isplitl [Hrcv]; · iexact Hrcv
    iexact Hacc

/-- The wait for the landing `t`: device `c - (t + 1)`'s block is here. -/
theorem wp_land (t : Fin 15) (n₀ : ℕ) (h₀ : n₀ = t.val) {a b : ℕ} {q : DmaSem sig} (hq : q = recvS (c - off t)) {o₁ : Fin 2 → ℕ} {o₂ : Fin 3 → ℕ}
    {i₁ : ∀ a, o₁ a + S256x256.size a ≤ S4096x256.size a} {u₁ : ∀ a, (Rect.unit (s := S4096x256) o₁ S256x256.size i₁).stride a = 1}
    {i₂ : ∀ a, o₂ a + S1x256x256.size a ≤ S16x256x256.size a} {u₂ : ∀ a, (Rect.unit (s := S16x256x256) o₂ S1x256x256.size i₂).stride a = 1}
    {hsrc : (xsM.slice (Rect.unit (s := S4096x256) o₁ S256x256.size i₁) u₁).view.WordExact}
    {hdst : ((xrM.slice (Rect.unit (s := S16x256x256) o₂ S1x256x256.size i₂) u₂).squeeze S256x256 squeezes_S1x256x256_S256x256).view.WordExact}
    {α : Type} {Q : α → sProp 𝕄} {kont : PUnit → Prog (TpuEff nD τ sig (Elt F) Λ₀ .tc) α} :
    Mid m K c a b n₀ A ⊢ iprop((Mid m K c a b (n₀ + 1) A -∗ run c (kont ⟨⟩) Q)
      -∗ run c (.op (.waitDma2 q (xsM.slice (Rect.unit (s := S4096x256) o₁ S256x256.size i₁) u₁)
          ((xrM.slice (Rect.unit (s := S16x256x256) o₂ S1x256x256.size i₂) u₂).squeeze S256x256 squeezes_S1x256x256_S256x256) hsrc hdst) kont) Q) := by
  subst h₀ hq
  unfold Mid Rcv owing
  rw [span_pop (a := t.val) (b := 15) t rfl t.isLt, span_push (a := 0) (b := t.val) t rfl (Nat.zero_le _)]
  iintro ⟨#HC, ⟨%W, HO⟩, HW, ⟨⟨⟨Hcr, Hat⟩, Hrest⟩, Hgot⟩, Hacc⟩ Hk
  ihave HI := ctx_recv m K c (c - off t) $$ HC
  icases HI with ⟨#HI, #HR⟩
  iapply (Rounds.wp_wait_rest_token 𝒱₀ ER (Rd m) (c : Thread nD τ) none (κ := K (c, ixRecv (c - off t)))
      (wpE_waitDma2_eq 𝒱₀ (c : Thread nD τ) none Set.univ) (Set.mem_univ _) () (O := 0) (W := W) (R := 0) (m := 0) (T := ∅)
      (by rw [Nat.zero_add]; exact credit_x.trans (expect_recv m c (sub_off_ne c t)).symm)) $$ [Hcr HO Hat]
  · isplitr; · iexact HI
    isplitl [Hcr]; · rw [← credit_x]; iexact Hcr
    isplitl [HO]; · iexact HO
    isplitr; · rw [MayWait_zero]; iempintro
    iexact Hat
  iintro ⟨HO, Hat, -, Hpay⟩
  ihave Hp := (Entails.of_eq (rest_recv m c (sub_off_ne c t))) $$ Hpay
  iapply Hk
  isplitr; · iexact HC
  isplitl [HO]; · iexists _; iexact HO
  isplitl [HW]; · iexact HW
  isplitr [Hacc]
  · isplitl [Hrest]; · iexact Hrest
    isplitr [Hgot]
    · isplitl [Hat]; · iexact Hat
      iexact Hp
    · iexact Hgot
  · iexact Hacc

/-- The load of the block landed. -/
theorem wp_xload (t : Fin 15) {a b r : ℕ} (hr : t.val < r) {o₂ : Fin 3 → ℕ} (ho₂ : o₂ = ![(c - off t).val, 0, 0])
    {i₂ : ∀ a, o₂ a + S1x256x256.size a ≤ S16x256x256.size a} {hl : xrM.view.LoadsAt (Rect.unit (s := S16x256x256) o₂ S1x256x256.size i₂).toLoadRect}
    {α : Type} {Q : α → sProp 𝕄} {kont : Vec F S1x256x256 .bf16 → Prog (TpuEff nD τ sig (Elt F) Λ₀ .tc) α} :
    Mid m K c a b r A ⊢ iprop((Mid m K c a b r A -∗ run c (kont (xslot m (c - off t) c)) Q)
      -∗ run c (.op (.load xrM (Rect.unit (s := S16x256x256) o₂ S1x256x256.size i₂).toLoadRect hl) kont) Q) := by
  subst ho₂
  unfold Mid Rcv
  iintro ⟨#HC, HO, HW, ⟨Hrest, Hgot⟩, Hacc⟩ Hk
  ihave Hi := (span_get (a := 0) (b := r) t (Nat.zero_le _) hr (fun t : Fin 15 => iprop(atPos ER (recvCell c (c - off t)) 1 ∅ 0 ∗ landed m c (c - off t)))) $$ Hgot
  icases Hi with ⟨⟨Hat, Hd⟩, Hgot⟩
  unfold landed owns
  icases Hd with ⟨%f, %hf, Hd⟩
  iapply (wp_load_rect 𝒱₀ (c : Thread nD τ) none Set.univ (m := xrM) (r := xrR (c - off t)) Finset.Subset.rfl) $$ Hd
  iintro Hd
  rw [show (xrM.access (xrR (c - off t))).read (Elt F) f = xslot m (c - off t) c from hf]
  iapply Hk
  isplitr; · iexact HC
  isplitl [HO]; · iexact HO
  isplitl [HW]; · iexact HW
  isplitr [Hacc]
  · isplitl [Hrest]; · iexact Hrest
    iapply Hgot
    isplitl [Hat]; · iexact Hat
    iexists f
    isplitr
    · ipureintro; exact hf
    · iexact Hd
  · iexact Hacc

abbrev acR : Rect S256x2048 := Rect.unit (s := S256x2048) ![0, 0] S256x2048.size inb_S256x2048_S256x2048_0_0
theorem hz : (![0, 0] : Fin 2 → Nat) = fun _ => 0 := by decide

/-- The load of the accumulator, and the store into it. -/
theorem wp_aload {a b r : ℕ} {hl : acM.view.LoadsAt acR.toLoadRect} {α : Type} {Q : α → sProp 𝕄} {kont : Vec F S256x2048 .f32 → Prog (TpuEff nD τ sig (Elt F) Λ₀ .tc) α} :
    Mid m K c a b r A ⊢ iprop((Mid m K c a b r A -∗ run c (kont A) Q) -∗ run c (.op (.load acM acR.toLoadRect hl) kont) Q) := by
  unfold Mid
  rw [owns_whole]
  iintro ⟨#HC, HO, HW, Hrcv, Hacc⟩ Hk
  iapply (wp_load_rect 𝒱₀ (c : Thread nD τ) none Set.univ (m := acM) (r := acR) (Finset.subset_univ _)) $$ Hacc
  iintro Hacc
  rw [show (acM.access acR).read (Elt F) A = A from Memref.readAt_unit_zero (Elt F) cc0_scratch3 hz _ A]
  iapply Hk
  isplitr; · iexact HC
  isplitl [HO]; · iexact HO
  isplitl [HW]; · iexact HW
  isplitl [Hrcv]; · iexact Hrcv
  iexact Hacc

theorem wp_astore {a b r : ℕ} (A' : Vec F S256x2048 .f32) {w : Vec F S256x2048 .f32} (hw : w = A')
    {hx : (acM.access acR).Stores Finset.univ} {hm : (Finset.univ : Finset acR.shape.Idx) = Finset.univ ∨ ∀ a, acR.stride a = 1}
    {α : Type} {Q : α → sProp 𝕄} {kont : PUnit → Prog (TpuEff nD τ sig (Elt F) Λ₀ .tc) α} :
    Mid m K c a b r A ⊢ iprop((Mid m K c a b r A' -∗ run c (kont ⟨⟩) Q) -∗ run c (.op (.store acM acR w Finset.univ hx hm) kont) Q) := by
  subst hw
  unfold Mid
  rw [owns_whole, owns_whole]
  iintro ⟨#HC, HO, HW, Hrcv, Hacc⟩ Hk
  iapply (wp_store 𝒱₀ (c : Thread nD τ) none Set.univ (m := acM) (r := acR) (Mk := Finset.univ) (Finset.subset_univ _)) $$ Hacc
  iintro Hacc
  rw [show (acM.access acR).write (Elt F) A w Finset.univ = w from Memref.write_access_unit_zero_univ (Elt F) cc0_scratch3 hz _ A w]
  iapply Hk
  isplitr; · iexact HC
  isplitl [HO]; · iexact HO
  isplitl [HW]; · iexact HW
  isplitl [Hrcv]; · iexact Hrcv
  iexact Hacc

end Steps

/-! ## The transfers' sources back -/

/-- `k` of the transfers waited for, their sources back. -/
def Snd (c : Dev nD) (k : ℕ) : sProp 𝕄 :=
  iprop(ctx m K ∗ owing c 0
    ∗ (span k 15 fun i : Fin 15 => iprop(cred (tallyAt (sendCell c i) () N) ∗ atPos ER (sendCell c i) 0 ∅ 0))
    ∗ (span 0 k fun i : Fin 15 => iprop(atPos ER (sendCell c i) 1 ∅ 0 ∗ source m c i)))

theorem wp_sent (c : Dev nD) (k : Fin 15) (n₀ : ℕ) (h₀ : n₀ = k.val) {q : DmaSem sig} (hq : q = sendS k) {o₁ : Fin 2 → ℕ} {o₂ : Fin 3 → ℕ}
    {i₁ : ∀ a, o₁ a + S256x256.size a ≤ S4096x256.size a} {u₁ : ∀ a, (Rect.unit (s := S4096x256) o₁ S256x256.size i₁).stride a = 1}
    {i₂ : ∀ a, o₂ a + S1x256x256.size a ≤ S16x256x256.size a} {u₂ : ∀ a, (Rect.unit (s := S16x256x256) o₂ S1x256x256.size i₂).stride a = 1}
    {hdst : (xsM.slice (Rect.unit (s := S4096x256) o₁ S256x256.size i₁) u₁).view.WordExact}
    {hsrc : ((xrM.slice (Rect.unit (s := S16x256x256) o₂ S1x256x256.size i₂) u₂).squeeze S256x256 squeezes_S1x256x256_S256x256).view.WordExact}
    {α : Type} {Q : α → sProp 𝕄} {kont : PUnit → Prog (TpuEff nD τ sig (Elt F) Λ₀ .tc) α} :
    Snd m K c n₀ ⊢ iprop((Snd m K c (n₀ + 1) -∗ run c (kont ⟨⟩) Q)
      -∗ run c (.op (.waitDma2 q ((xrM.slice (Rect.unit (s := S16x256x256) o₂ S1x256x256.size i₂) u₂).squeeze S256x256 squeezes_S1x256x256_S256x256)
          (xsM.slice (Rect.unit (s := S4096x256) o₁ S256x256.size i₁) u₁) hsrc hdst) kont) Q) := by
  subst h₀ hq
  unfold Snd owing
  rw [span_pop (a := k.val) (b := 15) k rfl k.isLt, span_push (a := 0) (b := k.val) k rfl (Nat.zero_le _)]
  iintro ⟨#HC, ⟨%W, HO⟩, ⟨⟨Hcr, Hat⟩, Hrest⟩, Hgot⟩ Hk
  ihave HI := ctx_send m K c k $$ HC
  icases HI with ⟨#HI, #HR⟩
  iapply (Rounds.wp_wait_rest_token 𝒱₀ ER (Rd m) (c : Thread nD τ) none (κ := K (c, ixSend k))
      (wpE_waitDma2_eq 𝒱₀ (c : Thread nD τ) none Set.univ) (Set.mem_univ _) () (O := 0) (W := W) (R := 0) (m := 0) (T := ∅)
      (by rw [Nat.zero_add]; exact credit_x.trans (expect_send m c k).symm)) $$ [Hcr HO Hat]
  · isplitr; · iexact HI
    isplitl [Hcr]; · rw [← credit_x]; iexact Hcr
    isplitl [HO]; · iexact HO
    isplitr; · rw [MayWait_zero]; iempintro
    iexact Hat
  iintro ⟨HO, Hat, -, Hpay⟩
  ihave Hp := (Entails.of_eq (rest_send m c k)) $$ Hpay
  iapply Hk
  isplitr; · iexact HC
  isplitl [HO]; · iexists _; iexact HO
  isplitl [Hrest]; · iexact Hrest
  isplitr [Hgot]
  · isplitl [Hat]; · iexact Hat
    iexact Hp
  · iexact Hgot

end Cert.Exchange
-- ==== Proof.Body.lean ====
/-
The kernel's body on a symbolic device: each of its printed parts as a chain of steps.
-/
module

public import proofs.«01_k».proof.Proof.Steps

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 32 → ℕ) (c : Dev nD)

/-! ## Where the printed offsets lie -/

/-- Rows sent to the device `k + 1` further on. -/
theorem at3 (k : Fin 15) : k0_off3 c (BitVec.ofNat 32 (1 + k.val)) = ![256 * (c + off k).val, 0] := by revert c k; decide +kernel
/-- The first copy of weights; the copy `t + 1`. -/
theorem at4 : k0_off4 c = ![256 * (c - (0 : Fin 16)).val, 0] := by revert c; decide +kernel
theorem at5 (t : Fin 15) : k0_off5 c (BitVec.ofNat 32 (15 - t.val)) = ![256 * (c - off t).val, 0] := by revert c t; decide +kernel
theorem at6 : k0_off6 c = ![256 * c.val, 0] := by revert c; decide +kernel
theorem at7 (t : Fin 15) : k0_off7 c (BitVec.ofNat 32 (1 + t.val)) = ![(c - off t).val] := by revert c t; decide +kernel
theorem at8 (t : Fin 15) : k0_off8 c (BitVec.ofNat 32 (1 + t.val)) = ![(c - off t).val, 0, 0] := by revert c t; decide +kernel
theorem at9 (t : Fin 15) : k0_off9 c (BitVec.ofNat 32 (1 + t.val)) = ![(c - off t).val, 0, 0] := by revert c t; decide +kernel

/-! ## What is accumulated -/

/-- The rows of device `c`'s block of `x` it keeps, as staged. -/
def xown : Vec F S256x256 .f32 := fun j => xstg m c ((xsR c).emb j)
/-- The accumulator after `t` landings; what is stored at last. -/
def acc : ℕ → Vec F S256x2048 .f32
  | 0 => k0_pay2 (xown m c) (wslot m c (c - 0))
  | t + 1 => k0_pay3 (acc t) (xslot m (c - off (Fin.ofNat 15 t)) c) (wslot m c (c - off (Fin.ofNat 15 t)))
def fin : Vec F S256x2048 .f32 := k0_pay19 (acc m c 14) (xslot m (c - off 14) c) (wslot m c (c - off 14))

/-! ## Steps whose operands are whole buffers -/

theorem run_ret {α : Type} {Q : α → sProp 𝕄} (a : α) : Q a ⊢ run c (Prog.ret a) Q := by
  show Q a ⊢ wp frame (wpE (defs₀ (F := F)) 𝒱₀ (c : Thread nD τ) none) Set.univ (Prog.ret a) Q
  rw [wp_ret]
  iintro H
  imodintro
  iexact H

abbrev xR : Rect S4096x256 := Rect.unit (s := S4096x256) ![0, 0] S4096x256.size inb_S4096x256_S4096x256_0_0

/-- The load of the whole staged block, of the rows kept; the load of and the store into the send buffer. -/
theorem wp_stg {hl : xM.view.LoadsAt xR.toLoadRect} {α : Type} {Q : α → sProp 𝕄} {kont : Vec F S4096x256 .f32 → Prog (TpuEff nD τ sig (Elt F) Λ₀ .tc) α} :
    owns (c : Thread nD τ) xM fullShare (xstg m c)
      ⊢ iprop((owns (c : Thread nD τ) xM fullShare (xstg m c) -∗ run c (kont (xstg m c)) Q) -∗ run c (.op (.load xM xR.toLoadRect hl) kont) Q) := by
  rw [owns_whole]
  iintro H Hk
  iapply (wp_load_rect 𝒱₀ (c : Thread nD τ) none Set.univ (m := xM) (r := xR) (Finset.subset_univ _)) $$ H
  iintro H
  rw [show (xM.access xR).read (Elt F) (xstg m c) = xstg m c from Memref.readAt_unit_zero (Elt F) cc0_stg0_0 hz _ (xstg m c)]
  iapply Hk; iexact H

theorem wp_own {o : Fin 2 → ℕ} (ho : o = ![256 * c.val, 0]) {i : ∀ a, o a + S256x256.size a ≤ S4096x256.size a}
    {hl : xM.view.LoadsAt (Rect.unit (s := S4096x256) o S256x256.size i).toLoadRect} {α : Type} {Q : α → sProp 𝕄}
    {kont : Vec F S256x256 .f32 → Prog (TpuEff nD τ sig (Elt F) Λ₀ .tc) α} :
    owns (c : Thread nD τ) xM fullShare (xstg m c)
      ⊢ iprop((owns (c : Thread nD τ) xM fullShare (xstg m c) -∗ run c (kont (xown m c)) Q)
        -∗ run c (.op (.load xM (Rect.unit (s := S4096x256) o S256x256.size i).toLoadRect hl) kont) Q) := by
  subst ho
  rw [owns_whole]
  iintro H Hk
  iapply (wp_load_rect 𝒱₀ (c : Thread nD τ) none Set.univ (m := xM) (r := xsR c) (Finset.subset_univ _)) $$ H
  iintro H
  rw [show (xM.access (xsR c)).read (Elt F) (xstg m c) = xown m c from rfl]
  iapply Hk; iexact H

theorem wp_nload (X : Vec F S4096x256 .bf16) {hl : xsM.view.LoadsAt xR.toLoadRect} {α : Type} {Q : α → sProp 𝕄}
    {kont : Vec F S4096x256 .bf16 → Prog (TpuEff nD τ sig (Elt F) Λ₀ .tc) α} :
    owns (c : Thread nD τ) xsM fullShare X
      ⊢ iprop((owns (c : Thread nD τ) xsM fullShare X -∗ run c (kont X) Q) -∗ run c (.op (.load xsM xR.toLoadRect hl) kont) Q) := by
  rw [owns_whole]
  iintro H Hk
  iapply (wp_load_rect 𝒱₀ (c : Thread nD τ) none Set.univ (m := xsM) (r := xR) (Finset.subset_univ _)) $$ H
  iintro H
  rw [show (xsM.access xR).read (Elt F) X = X from Memref.readAt_unit_zero (Elt F) cc0_scratch0 hz _ X]
  iapply Hk; iexact H

theorem wp_nstore (X w : Vec F S4096x256 .bf16) {hx : (xsM.access xR).Stores Finset.univ}
    {hm : (Finset.univ : Finset xR.shape.Idx) = Finset.univ ∨ ∀ a, xR.stride a = 1} {α : Type} {Q : α → sProp 𝕄}
    {kont : PUnit → Prog (TpuEff nD τ sig (Elt F) Λ₀ .tc) α} :
    owns (c : Thread nD τ) xsM fullShare X
      ⊢ iprop((owns (c : Thread nD τ) xsM fullShare w -∗ run c (kont ⟨⟩) Q) -∗ run c (.op (.store xsM xR w Finset.univ hx hm) kont) Q) := by
  rw [owns_whole, owns_whole]
  iintro H Hk
  iapply (wp_store 𝒱₀ (c : Thread nD τ) none Set.univ (m := xsM) (r := xR) (Mk := Finset.univ) (Finset.subset_univ _)) $$ H
  iintro H
  rw [show (xsM.access xR).write (Elt F) X w Finset.univ = w from Memref.write_access_unit_zero_univ (Elt F) cc0_scratch0 hz _ X w]
  iapply Hk; iexact H

/-- A whole view written holds what was written. -/
theorem owns_written {sp : Space} {s : Shape} {e : EltTy} (M : Memref sig .tc sp s e) (fd : M.view.ty.Contents (Elt F)) (w : s.Idx → Elt F e) :
    (M.view.loc (c : Thread nD τ) ↦[M.view.set]{fullShare} M.view.write (Elt F) fd w Finset.univ : sProp 𝕄) ⊢ owns (c : Thread nD τ) M fullShare w := by
  unfold owns
  iintro H
  iexists _
  isplitr
  · ipureintro; exact View.read_write_univ fd _
  · iexact H

/-- The result's buffer before its copy, the copy in flight. -/
def Out : sProp 𝕄 := iprop((∃ X, owns (c : Thread nD τ) oM fullShare X) ∗ semVal ((c : Thread nD τ), .dma outS) 0)
def ofly (A : Vec F S256x2048 .f32) : sProp 𝕄 :=
  Transfers.Flight EC (c : Thread nD τ) (.dma outS) () NW iprop(owns (c : Thread nD τ) oM fullShare A ∗ owns (c : Thread nD τ) acM fullShare A)

theorem wp_ostart (A : Vec F S256x2048 .f32) {q : DmaSem sig} (hq : q = outS) {hsrc : acM.view.WordExact} {hdst : oM.view.WordExact}
    {hsem : DmaTarget.Typed .vmem (.dma q) (.here oM : DmaTarget nD τ sig .tc .hbm S256x2048 .f32)}
    {α : Type} {Q : α → sProp 𝕄} {kont : PUnit → Prog (TpuEff nD τ sig (Elt F) Λ₀ .tc) α} :
    iprop(owns (c : Thread nD τ) acM fullShare A ∗ Out c)
      ⊢ iprop((ofly c A -∗ run c (kont ⟨⟩) Q) -∗ run c (.op (.enqueueDma acM (.here oM) (.dma q) hsrc hdst hsem) kont) Q) := by
  subst hq
  unfold Out ofly
  iintro ⟨Hs, ⟨%X, Hd⟩, Hv⟩ Hk
  ihave Hs := (owns_elim c acM A) $$ Hs
  icases Hs with ⟨%fs, %hfs, Hs⟩
  ihave Hd := (owns_elim c oM X) $$ Hd
  icases Hd with ⟨%fd, -, Hd⟩
  iapply (Transfers.wp_dmaLocal EC 𝒱₀ (c : Thread nD τ) none (src := acM) (dst := oM)
      (sm := .dma outS) (q := fullShare) (fs := fs) (fd := fd) () NW rfl NW_pos Finset.Subset.rfl) $$ [Hs Hd Hv]
  · isplitl [Hs]; · iexact Hs
    isplitl [Hd]; · iexact Hd
    iexact Hv
  iintro Hf
  iapply Hk
  iapply (Transfers.Flight_mono EC (c : Thread nD τ) ?_) $$ Hf
  subst hfs
  iintro ⟨Hd, Hs⟩
  isplitl [Hd]
  · iapply (owns_written c oM fd _) $$ Hd
  · unfold owns
    iexists fs
    isplitr
    · ipureintro; rfl
    · iexact Hs

theorem wp_owait (A : Vec F S256x2048 .f32) {q : DmaSem sig} (hq : q = outS) {hsrc : acM.view.WordExact} {hdst : oM.view.WordExact}
    {α : Type} {Q : α → sProp 𝕄} {kont : PUnit → Prog (TpuEff nD τ sig (Elt F) Λ₀ .tc) α} :
    iprop(ofly c A ∗ owing c 0)
      ⊢ iprop(((owns (c : Thread nD τ) oM fullShare A ∗ owns (c : Thread nD τ) acM fullShare A ∗ semVal ((c : Thread nD τ), .dma outS) 0 ∗ owing c 0)
          -∗ run c (kont ⟨⟩) Q) -∗ run c (.op (.waitDma2 q acM oM hsrc hdst) kont) Q) := by
  subst hq
  unfold ofly owing
  iintro ⟨Hf, %W, HO⟩ Hk
  iapply (Transfers.wp_waitLocal EC 𝒱₀ (c : Thread nD τ) none () (N := NW) rfl (W := W)) $$ [Hf HO]
  · isplitl [Hf]; · iexact Hf
    iexact HO
  iintro ⟨⟨Hd, Hs⟩, Hv, HO⟩
  iapply Hk
  isplitl [Hd]; · iexact Hd
  isplitl [Hs]; · iexact Hs
  isplitl [Hv]; · iexact Hv
  iexists _; iexact HO

/-! ## The operands, whole -/

theorem hx : xM.IsWhole := Memref.isWhole_whole _
theorem hw : wM.IsWhole := Memref.isWhole_whole _
theorem ho : oM.IsWhole := Memref.isWhole_whole _
theorem hxs : xsM.IsWhole := Memref.isWhole_whole _
theorem hxr : xrM.IsWhole := Memref.isWhole_whole _
theorem hwb : wbM.IsWhole := Memref.isWhole_whole _
theorem hac : acM.IsWhole := Memref.isWhole_whole _

/-! ## The handshake -/

theorem part1 {Q : _ → sProp 𝕄} : SigSt m K c 0 ⊢ iprop((∀ a b e, SigSt m K c 5 -∗ Q ⟨c, a, SemArray.scalar (sig.barrier 0 rfl), b, e⟩)
    -∗ run c (k0_part1 xM hx wM hw oM ho xsM hxs xrM hxr wbM hwb acM hac cc0_scratch4 cc0_scratch5 cc0_scratch6 cc0_scratch7) Q) := by
  rw [k0_part1_eq_skeleton]
  unfold k0_part1_skel
  simp only [semSignalWord, Prog.lift, Prog.bind_op, Prog.bind_ret, Prog.pure_eq_ret, wp_deviceId]
  iintro H Hk
  iapply (wp_sig m K c 0 0 rfl (Fin.ext (k0_dev1_eq c)) (by decide)) $$ H; iintro H
  iapply (wp_sig m K c 1 1 rfl (Fin.ext (k0_dev2_eq c)) (by decide)) $$ H; iintro H
  iapply (wp_sig m K c 2 2 rfl (Fin.ext (k0_dev3_eq c)) (by decide)) $$ H; iintro H
  iapply (wp_sig m K c 3 3 rfl (Fin.ext (k0_dev4_eq c)) (by decide)) $$ H; iintro H
  iapply (wp_sig m K c 4 4 rfl (Fin.ext (k0_dev5_eq c)) (by decide)) $$ H; iintro H
  iapply run_ret; iapply Hk; iexact H

theorem part2 (v2 v24 w : BitVec 32) {Q : _ → sProp 𝕄} : SigSt m K c 5 ⊢ iprop((∀ r, SigSt m K c 11 -∗ Q r)
    -∗ run c (k0_part2 xM hx wM hw oM ho xsM hxs xrM hxr wbM hwb acM hac cc0_scratch4 cc0_scratch5 cc0_scratch6 cc0_scratch7
      c v2 (SemArray.scalar (sig.barrier 0 rfl)) v24 w) Q) := by
  rw [k0_part2_eq_skeleton]
  unfold k0_part2_skel
  simp only [semSignalWord, Prog.lift, Prog.bind_op, Prog.bind_ret, Prog.pure_eq_ret]
  iintro H Hk
  iapply (wp_sig m K c 5 5 rfl (Fin.ext (k0_dev6_eq c)) (by decide)) $$ H; iintro H
  iapply (wp_sig m K c 6 6 rfl (Fin.ext (k0_dev7_eq c)) (by decide)) $$ H; iintro H
  iapply (wp_sig m K c 7 7 rfl (Fin.ext (k0_dev8_eq c)) (by decide)) $$ H; iintro H
  iapply (wp_sig m K c 8 8 rfl (Fin.ext (k0_dev9_eq c)) (by decide)) $$ H; iintro H
  iapply (wp_sig m K c 9 9 rfl (Fin.ext (k0_dev10_eq c)) (by decide)) $$ H; iintro H
  iapply (wp_sig m K c 10 10 rfl (Fin.ext (k0_dev11_eq c)) (by decide)) $$ H; iintro H
  iapply run_ret; iapply Hk; iexact H

theorem part3 (v2 v48 w : BitVec 32) (X : Vec F S4096x256 .bf16) {Q : _ → sProp 𝕄} :
    iprop(SigSt m K c 11 ∗ (cred (tallyAt (barCell c) () 15) ∗ atPos ER (barCell c) 0 ∅ 0) ∗ owns (c : Thread nD τ) xM fullShare (xstg m c)
        ∗ owns (c : Thread nD τ) xsM fullShare X)
      ⊢ iprop((∀ r, (ctx m K ∗ owing c (owedSend c 0) ∗ atPos ER (barCell c) 1 ∅ 0 ∗ span 0 15 (room (F := F) c))
          -∗ owns (c : Thread nD τ) xM fullShare (xstg m c) -∗ owns (c : Thread nD τ) xsM fullShare (xnar m c) -∗ Q r)
    -∗ run c (k0_part3 xM hx wM hw oM ho xsM hxs xrM hxr wbM hwb acM hac cc0_scratch4 cc0_scratch5 cc0_scratch6 cc0_scratch7
      c v2 (SemArray.scalar (sig.barrier 0 rfl)) v48 w) Q) := by
  rw [k0_part3_eq_skeleton]
  unfold k0_part3_skel
  simp only [semSignalWord, semWaitWord, Prog.lift, Prog.bind_op, Prog.bind_ret, Prog.pure_eq_ret]
  iintro ⟨H, ⟨Hc, Ha⟩, Hx, Hn⟩ Hk
  iapply (wp_sig m K c 11 11 rfl (Fin.ext (k0_dev12_eq c)) (by decide)) $$ H; iintro H
  iapply (wp_sig m K c 12 12 rfl (Fin.ext (k0_dev13_eq c)) (by decide)) $$ H; iintro H
  iapply (wp_sig m K c 13 13 rfl (Fin.ext (k0_dev14_eq c)) (by decide)) $$ H; iintro H
  iapply (wp_sig m K c 14 14 rfl (Fin.ext (k0_dev15_eq c)) (by decide)) $$ H; iintro H
  iapply (wp_enter m K c (by decide)) $$ [H Hc Ha]
  · isplitl [H]; · iexact H
    isplitl [Hc]; · iexact Hc
    iexact Ha
  iintro H
  iapply (wp_stg m c) $$ Hx; iintro Hx
  iapply (wp_nload c X) $$ Hn; iintro Hn
  iapply (wp_nstore c X _) $$ Hn; iintro Hn
  iapply run_ret
  iapply Hk $$ [H] [Hx] [Hn]
  · iexact H
  · iexact Hx
  · iexact Hn

/-! ## The transfers -/

theorem part4 (v2 v73 : BitVec 32) {Q : _ → sProp 𝕄} : SendSt m K c 0 ⊢ iprop((∀ r, SendSt m K c 3 -∗ Q r)
    -∗ run c (k0_part4 xM hx wM hw oM ho xsM hxs xrM hxr wbM hwb acM hac cc0_scratch4 cc0_scratch5 cc0_scratch6 cc0_scratch7 c v2 v73) Q) := by
  rw [k0_part4_eq_skeleton]
  unfold k0_part4_skel
  simp only [Prog.lift, Prog.bind_op, Prog.bind_ret, Prog.pure_eq_ret]
  iintro H Hk
  iapply (wp_send m K c 0 0 rfl (Fin.ext (k0_dev16_eq c)) (at3 c 11) (k0_off2_eq c) (send_sem 0 rfl _) (recv_sem c (k0_off1_eq c) _)) $$ H; iintro H
  iapply (wp_send m K c 1 1 rfl (Fin.ext (k0_dev17_eq c)) (at3 c 12) (k0_off2_eq c) (send_sem 1 rfl _) (recv_sem c (k0_off1_eq c) _)) $$ H; iintro H
  iapply (wp_send m K c 2 2 rfl (Fin.ext (k0_dev18_eq c)) (at3 c 13) (k0_off2_eq c) (send_sem 2 rfl _) (recv_sem c (k0_off1_eq c) _)) $$ H; iintro H
  iapply run_ret; iapply Hk; iexact H

theorem part5 (v2 v106 w : BitVec 32) {Q : _ → sProp 𝕄} : SendSt m K c 3 ⊢ iprop((SendSt m K c 5 -∗ Q ⟨⟩)
    -∗ run c (k0_part5 xM hx wM hw oM ho xsM hxs xrM hxr wbM hwb acM hac cc0_scratch4 cc0_scratch5 cc0_scratch6 cc0_scratch7 c v2 v106 w) Q) := by
  rw [k0_part5_eq_skeleton]
  unfold k0_part5_skel
  simp only [Prog.lift, Prog.bind_op, Prog.bind_ret, Prog.pure_eq_ret]
  iintro H Hk
  iapply (wp_send m K c 3 3 rfl (Fin.ext (k0_dev19_eq c)) (at3 c 14) (k0_off2_eq c) (send_sem 3 rfl _) (recv_sem c (k0_off1_eq c) _)) $$ H; iintro H
  iapply (wp_send m K c 4 4 rfl (Fin.ext (k0_dev20_eq c)) (at3 c 7) (k0_off2_eq c) (send_sem 4 rfl _) (recv_sem c (k0_off1_eq c) _)) $$ H; iintro H
  iapply run_ret; iapply Hk; iexact H

theorem part6 (v2 : BitVec 32) {Q : _ → sProp 𝕄} : SendSt m K c 5 ⊢ iprop((SendSt m K c 8 -∗ Q ⟨⟩)
    -∗ run c (k0_part6 xM hx wM hw oM ho xsM hxs xrM hxr wbM hwb acM hac cc0_scratch4 cc0_scratch5 cc0_scratch6 cc0_scratch7 c v2) Q) := by
  rw [k0_part6_eq_skeleton]
  unfold k0_part6_skel
  simp only [Prog.lift, Prog.bind_op, Prog.bind_ret, Prog.pure_eq_ret]
  iintro H Hk
  iapply (wp_send m K c 5 5 rfl (Fin.ext (k0_dev21_eq c)) (at3 c 8) (k0_off2_eq c) (send_sem 5 rfl _) (recv_sem c (k0_off1_eq c) _)) $$ H; iintro H
  iapply (wp_send m K c 6 6 rfl (Fin.ext (k0_dev22_eq c)) (at3 c 9) (k0_off2_eq c) (send_sem 6 rfl _) (recv_sem c (k0_off1_eq c) _)) $$ H; iintro H
  iapply (wp_send m K c 7 7 rfl (Fin.ext (k0_dev23_eq c)) (at3 c 10) (k0_off2_eq c) (send_sem 7 rfl _) (recv_sem c (k0_off1_eq c) _)) $$ H; iintro H
  iapply run_ret; iapply Hk; iexact H

theorem part7 (v2 : BitVec 32) {Q : _ → sProp 𝕄} : SendSt m K c 8 ⊢ iprop((∀ r, SendSt m K c 11 -∗ Q r)
    -∗ run c (k0_part7 xM hx wM hw oM ho xsM hxs xrM hxr wbM hwb acM hac cc0_scratch4 cc0_scratch5 cc0_scratch6 cc0_scratch7 c v2) Q) := by
  rw [k0_part7_eq_skeleton]
  unfold k0_part7_skel
  simp only [Prog.lift, Prog.bind_op, Prog.bind_ret, Prog.pure_eq_ret]
  iintro H Hk
  iapply (wp_send m K c 8 8 rfl (Fin.ext (k0_dev24_eq c)) (at3 c 3) (k0_off2_eq c) (send_sem 8 rfl _) (recv_sem c (k0_off1_eq c) _)) $$ H; iintro H
  iapply (wp_send m K c 9 9 rfl (Fin.ext (k0_dev25_eq c)) (at3 c 4) (k0_off2_eq c) (send_sem 9 rfl _) (recv_sem c (k0_off1_eq c) _)) $$ H; iintro H
  iapply (wp_send m K c 10 10 rfl (Fin.ext (k0_dev26_eq c)) (at3 c 5) (k0_off2_eq c) (send_sem 10 rfl _) (recv_sem c (k0_off1_eq c) _)) $$ H; iintro H
  iapply run_ret; iapply Hk; iexact H

theorem part8 (v2 w : BitVec 32) {Q : _ → sProp 𝕄} : SendSt m K c 11 ⊢ iprop((∀ r, SendSt m K c 14 -∗ Q r)
    -∗ run c (k0_part8 xM hx wM hw oM ho xsM hxs xrM hxr wbM hwb acM hac cc0_scratch4 cc0_scratch5 cc0_scratch6 cc0_scratch7 c v2 w) Q) := by
  rw [k0_part8_eq_skeleton]
  unfold k0_part8_skel
  simp only [Prog.lift, Prog.bind_op, Prog.bind_ret, Prog.pure_eq_ret]
  iintro H Hk
  iapply (wp_send m K c 11 11 rfl (Fin.ext (k0_dev27_eq c)) (at3 c 6) (k0_off2_eq c) (send_sem 11 rfl _) (recv_sem c (k0_off1_eq c) _)) $$ H; iintro H
  iapply (wp_send m K c 12 12 rfl (Fin.ext (k0_dev28_eq c)) (at3 c 0) (k0_off2_eq c) (send_sem 12 rfl _) (recv_sem c (k0_off1_eq c) _)) $$ H; iintro H
  iapply (wp_send m K c 13 13 rfl (Fin.ext (k0_dev29_eq c)) (at3 c 1) (k0_off2_eq c) (send_sem 13 rfl _) (recv_sem c (k0_off1_eq c) _)) $$ H; iintro H
  iapply run_ret; iapply Hk; iexact H

/-- What the last transfer leaves: nothing owed, every send to be waited for. -/
theorem sends_end : SendSt m K c 15 ⊢ iprop(ctx m K ∗ owing c 0 ∗ span 0 15 fun i : Fin 15 => cred (tallyAt (sendCell c i) () N)) := by
  unfold SendSt
  rw [owedSend_end]
  iintro ⟨HC, HO, -, H⟩
  isplitl [HC]; · iexact HC
  isplitl [HO]; · iexact HO
  iexact H

theorem part9 (v2 w : BitVec 32) (A : Vec F S256x2048 .f32) {Q : _ → sProp 𝕄} :
    iprop(SendSt m K c 14 ∗ WSt m c 0 0 ∗ Rcv m c 0 ∗ owns (c : Thread nD τ) acM fullShare A)
      ⊢ iprop((Mid m K c 2 0 0 A -∗ (span 0 15 fun i : Fin 15 => cred (tallyAt (sendCell c i) () N)) -∗ Q ⟨⟩)
    -∗ run c (k0_part9 xM hx wM hw oM ho xsM hxs xrM hxr wbM hwb acM hac cc0_scratch4 cc0_scratch5 cc0_scratch6 cc0_scratch7 c v2 w) Q) := by
  rw [k0_part9_eq_skeleton]
  unfold k0_part9_skel
  simp only [Prog.lift, Prog.bind_op, Prog.bind_ret, Prog.pure_eq_ret]
  iintro ⟨H, HW, HR, HA⟩ Hk
  iapply (wp_send m K c 14 14 rfl (Fin.ext (k0_dev30_eq c)) (at3 c 2) (k0_off2_eq c) (send_sem 14 rfl _) (recv_sem c (k0_off1_eq c) _)) $$ H; iintro H
  ihave H := (sends_end m K c) $$ H
  icases H with ⟨HC, HO, Hs⟩
  ihave H := (show iprop(ctx m K ∗ owing c 0 ∗ WSt m c 0 0 ∗ Rcv m c 0 ∗ owns (c : Thread nD τ) acM fullShare A) ⊢ Mid m K c 0 0 0 A from .rfl) $$ [HC HO HW HR HA]
  · isplitl [HC]; · iexact HC
    isplitl [HO]; · iexact HO
    isplitl [HW]; · iexact HW
    isplitl [HR]; · iexact HR
    iexact HA
  iapply (wp_wstart m K c 0 0 rfl (by decide) (by decide) (at4 c) rfl (slot_sem 0 rfl _)) $$ H; iintro H
  iapply (wp_wstart m K c (off 0) 1 rfl (by decide) (by decide) (at5 c 0) rfl (slot_sem 1 rfl _)) $$ H; iintro H
  iapply run_ret
  iapply Hk $$ [H] [Hs]
  · iexact H
  · iexact Hs

end Cert.Exchange
-- ==== Proof.Body2.lean ====
/-
The second half of the body: the products accumulated as the blocks land.
-/
module

public import proofs.«01_k».proof.Proof.Body

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 32 → ℕ) (c : Dev nD)

/-- One landing and its product: the wait, the loads of the accumulator, the block landed and the weights, the store. -/
theorem wp_turn (t : Fin 15) (n₀ : ℕ) (h₀ : n₀ = t.val) {a b : ℕ} (hb : t.val + 1 < b) (ha : a ≤ t.val + 7) {A : Vec F S256x2048 .f32} (A' : Vec F S256x2048 .f32)
    {pay : Vec F S256x2048 .f32 → Vec F S1x256x256 .bf16 → Vec F S1x256x2048 .f32 → Vec F S256x2048 .f32}
    (hp : pay A (xslot m (c - off t) c) (wslot m c (c - off t)) = A')
    {q : DmaSem sig} (hq : q = recvS (c - off t)) {o₁ : Fin 2 → ℕ} {o₂ o₃ o₄ : Fin 3 → ℕ} (ho₃ : o₃ = ![(c - off t).val, 0, 0])
    (ho₄ : o₄ = ![(slot (off t).val).val, 0, 0])
    {i₁ : ∀ a, o₁ a + S256x256.size a ≤ S4096x256.size a} {u₁ : ∀ a, (Rect.unit (s := S4096x256) o₁ S256x256.size i₁).stride a = 1}
    {i₂ : ∀ a, o₂ a + S1x256x256.size a ≤ S16x256x256.size a} {u₂ : ∀ a, (Rect.unit (s := S16x256x256) o₂ S1x256x256.size i₂).stride a = 1}
    {i₃ : ∀ a, o₃ a + S1x256x256.size a ≤ S16x256x256.size a} {i₄ : ∀ a, o₄ a + S1x256x2048.size a ≤ S6x256x2048.size a}
    {hsrc : (xsM.slice (Rect.unit (s := S4096x256) o₁ S256x256.size i₁) u₁).view.WordExact}
    {hdst : ((xrM.slice (Rect.unit (s := S16x256x256) o₂ S1x256x256.size i₂) u₂).squeeze S256x256 squeezes_S1x256x256_S256x256).view.WordExact}
    {hl₁ hl₂ : acM.view.LoadsAt acR.toLoadRect}
    {hl₃ : xrM.view.LoadsAt (Rect.unit (s := S16x256x256) o₃ S1x256x256.size i₃).toLoadRect}
    {hl₄ : wbM.view.LoadsAt (Rect.unit (s := S6x256x2048) o₄ S1x256x2048.size i₄).toLoadRect}
    {hx : (acM.access acR).Stores Finset.univ} {hm : (Finset.univ : Finset acR.shape.Idx) = Finset.univ ∨ ∀ a, acR.stride a = 1}
    {α : Type} {Q : α → sProp 𝕄} {kont : PUnit → Prog (TpuEff nD τ sig (Elt F) Λ₀ .tc) α} :
    Mid m K c a b n₀ A ⊢ iprop((Mid m K c a b (n₀ + 1) A' -∗ run c (kont ⟨⟩) Q)
      -∗ run c (.op (.waitDma2 q (xsM.slice (Rect.unit (s := S4096x256) o₁ S256x256.size i₁) u₁)
          ((xrM.slice (Rect.unit (s := S16x256x256) o₂ S1x256x256.size i₂) u₂).squeeze S256x256 squeezes_S1x256x256_S256x256) hsrc hdst) fun _ =>
        .op (.load acM acR.toLoadRect hl₁) fun v₁ =>
        .op (.load xrM (Rect.unit (s := S16x256x256) o₃ S1x256x256.size i₃).toLoadRect hl₃) fun v₂ =>
        .op (.load wbM (Rect.unit (s := S6x256x2048) o₄ S1x256x2048.size i₄).toLoadRect hl₄) fun v₃ =>
        .op (.load acM acR.toLoadRect hl₂) fun _ =>
        .op (.store acM acR (pay v₁ v₂ v₃) Finset.univ hx hm) kont) Q) := by
  subst h₀
  iintro H Hk
  iapply (wp_land m K c t t.val rfl hq) $$ H; iintro H
  iapply (wp_aload m K c) $$ H; iintro H
  iapply (wp_xload m K c t (Nat.lt_succ_self _) ho₃) $$ H; iintro H
  iapply (wp_wload m K c (off t) hb ha ho₄) $$ H; iintro H
  iapply (wp_aload m K c) $$ H; iintro H
  iapply (wp_astore m K c A' hp) $$ H; iintro H
  iapply Hk; iexact H

theorem part10 (A : Vec F S256x2048 .f32) (v2 : BitVec 32) {Q : _ → sProp 𝕄} : Mid m K c 2 0 0 A ⊢ iprop((∀ r, Mid m K c 5 1 0 A -∗ Q r)
    -∗ run c (k0_part10 xM hx wM hw oM ho xsM hxs xrM hxr wbM hwb acM hac cc0_scratch4 cc0_scratch5 cc0_scratch6 cc0_scratch7 c v2) Q) := by
  rw [k0_part10_eq_skeleton]
  unfold k0_part10_skel
  simp only [Prog.lift, Prog.bind_op, Prog.bind_ret, Prog.pure_eq_ret]
  iintro H Hk
  iapply (wp_wstart m K c (off 1) 2 rfl (by decide) (by decide) (at5 c 1) rfl (slot_sem 2 rfl _)) $$ H; iintro H
  iapply (wp_wstart m K c (off 2) 3 rfl (by decide) (by decide) (at5 c 2) rfl (slot_sem 3 rfl _)) $$ H; iintro H
  iapply (wp_wstart m K c (off 3) 4 rfl (by decide) (by decide) (at5 c 3) rfl (slot_sem 4 rfl _)) $$ H; iintro H
  iapply (wp_wwait m K c 0 0 rfl (by decide) (by decide) (slot_sem 0 rfl _)) $$ H; iintro H
  iapply run_ret; iapply Hk; iexact H

theorem part11 (A : Vec F S256x2048 .f32) (v2 v295 w : BitVec 32) {Q : _ → sProp 𝕄} : iprop(Mid m K c 5 1 0 A ∗ owns (c : Thread nD τ) xM fullShare (xstg m c)) ⊢ iprop((Mid m K c 6 2 0 (acc m c 0) -∗ owns (c : Thread nD τ) xM fullShare (xstg m c) -∗ Q ⟨⟩)
    -∗ run c (k0_part11 xM hx wM hw oM ho xsM hxs xrM hxr wbM hwb acM hac cc0_scratch4 cc0_scratch5 cc0_scratch6 cc0_scratch7 c v2 v295 w) Q) := by
  rw [k0_part11_eq_skeleton]
  unfold k0_part11_skel
  simp only [Prog.lift, Prog.bind_op, Prog.bind_ret, Prog.pure_eq_ret]
  iintro ⟨H, Hx⟩ Hk
  iapply (wp_wstart m K c (off 4) 5 rfl (by decide) (by decide) (at5 c 4) rfl (slot_sem 5 rfl _)) $$ H; iintro H
  iapply (wp_own m c (at6 c)) $$ Hx; iintro Hx
  iapply (wp_wload m K c 0 (by decide) (by decide) rfl) $$ H; iintro H
  iapply (wp_aload m K c) $$ H; iintro H
  iapply (wp_astore m K c (acc m c 0) rfl) $$ H; iintro H
  iapply (wp_wwait m K c (off 0) 1 rfl (by decide) (by decide) (slot_sem 1 rfl _)) $$ H; iintro H
  iapply run_ret
  iapply Hk $$ [H] [Hx]
  · iexact H
  · iexact Hx

theorem part12 (v2 : BitVec 32) {Q : _ → sProp 𝕄} : Mid m K c 6 2 0 (acc m c 0) ⊢ iprop((Mid m K c 7 2 1 (acc m c 1) -∗ Q ⟨⟩)
    -∗ run c (k0_part12 xM hx wM hw oM ho xsM hxs xrM hxr wbM hwb acM hac cc0_scratch4 cc0_scratch5 cc0_scratch6 cc0_scratch7 c v2) Q) := by
  rw [k0_part12_eq_skeleton]
  unfold k0_part12_skel
  simp only [Prog.lift, Prog.bind_op, Prog.bind_ret, Prog.pure_eq_ret]
  iintro H Hk
  iapply (wp_wstart m K c (off 5) 6 rfl (by decide) (by decide) (at5 c 5) rfl (slot_sem 0 rfl _)) $$ H; iintro H
  iapply (wp_turn m K c 0 0 rfl (by decide) (by decide) (acc m c 1) rfl (recv_sem _ (at7 c 0) _) (at9 c 0) rfl) $$ H; iintro H
  iapply run_ret; iapply Hk; iexact H

theorem part13 (v2 : BitVec 32) {Q : _ → sProp 𝕄} : Mid m K c 7 2 1 (acc m c 1) ⊢ iprop((Mid m K c 8 3 2 (acc m c 1) -∗ Q ⟨acc m c 1, k0_pay4 (xslot m (c - off 1) c) (wslot m c (c - off 1))⟩)
    -∗ run c (k0_part13 xM hx wM hw oM ho xsM hxs xrM hxr wbM hwb acM hac cc0_scratch4 cc0_scratch5 cc0_scratch6 cc0_scratch7 c v2) Q) := by
  rw [k0_part13_eq_skeleton]
  unfold k0_part13_skel
  simp only [Prog.lift, Prog.bind_op, Prog.bind_ret, Prog.pure_eq_ret]
  iintro H Hk
  iapply (wp_wwait m K c (off 1) 2 rfl (by decide) (by decide) (slot_sem 2 rfl _)) $$ H; iintro H
  iapply (wp_wstart m K c (off 6) 7 rfl (by decide) (by decide) (at5 c 6) rfl (slot_sem 1 rfl _)) $$ H; iintro H
  iapply (wp_land m K c 1 1 rfl (recv_sem _ (at7 c 1) _)) $$ H; iintro H
  iapply (wp_aload m K c) $$ H; iintro H
  iapply (wp_xload m K c 1 (by decide) (at9 c 1)) $$ H; iintro H
  iapply (wp_wload m K c (off 1) (by decide) (by decide) rfl) $$ H; iintro H
  iapply run_ret; iapply Hk; iexact H

theorem part14 (v2 : BitVec 32) {Q : _ → sProp 𝕄} : Mid m K c 8 3 2 (acc m c 1) ⊢ iprop((∀ r, Mid m K c 9 4 2 (acc m c 2) -∗ Q r)
    -∗ run c (k0_part14 xM hx wM hw oM ho xsM hxs xrM hxr wbM hwb acM hac cc0_scratch4 cc0_scratch5 cc0_scratch6 cc0_scratch7 c v2 (acc m c 1) (k0_pay4 (xslot m (c - off 1) c) (wslot m c (c - off 1)))) Q) := by
  rw [k0_part14_eq_skeleton]
  unfold k0_part14_skel
  simp only [Prog.lift, Prog.bind_op, Prog.bind_ret, Prog.pure_eq_ret]
  iintro H Hk
  iapply (wp_aload m K c) $$ H; iintro H
  iapply (wp_astore m K c (acc m c 2) rfl) $$ H; iintro H
  iapply (wp_wwait m K c (off 2) 3 rfl (by decide) (by decide) (slot_sem 3 rfl _)) $$ H; iintro H
  iapply (wp_wstart m K c (off 7) 8 rfl (by decide) (by decide) (at5 c 7) rfl (slot_sem 2 rfl _)) $$ H; iintro H
  iapply run_ret; iapply Hk; iexact H

theorem part15 (v2 w : BitVec 32) {Q : _ → sProp 𝕄} : Mid m K c 9 4 2 (acc m c 2) ⊢ iprop((∀ r, Mid m K c 10 5 3 (acc m c 3) -∗ Q r)
    -∗ run c (k0_part15 xM hx wM hw oM ho xsM hxs xrM hxr wbM hwb acM hac cc0_scratch4 cc0_scratch5 cc0_scratch6 cc0_scratch7 c v2 w) Q) := by
  rw [k0_part15_eq_skeleton]
  unfold k0_part15_skel
  simp only [Prog.lift, Prog.bind_op, Prog.bind_ret, Prog.pure_eq_ret]
  iintro H Hk
  iapply (wp_turn m K c 2 2 rfl (by decide) (by decide) (acc m c 3) rfl (recv_sem _ (at7 c 2) _) (at9 c 2) rfl) $$ H; iintro H
  iapply (wp_wwait m K c (off 3) 4 rfl (by decide) (by decide) (slot_sem 4 rfl _)) $$ H; iintro H
  iapply (wp_wstart m K c (off 8) 9 rfl (by decide) (by decide) (at5 c 8) rfl (slot_sem 3 rfl _)) $$ H; iintro H
  iapply run_ret; iapply Hk; iexact H

theorem part16 (v2 w : BitVec 32) {Q : _ → sProp 𝕄} : Mid m K c 10 5 3 (acc m c 3) ⊢ iprop((Mid m K c 10 6 4 (acc m c 4) -∗ Q ⟨⟩)
    -∗ run c (k0_part16 xM hx wM hw oM ho xsM hxs xrM hxr wbM hwb acM hac cc0_scratch4 cc0_scratch5 cc0_scratch6 cc0_scratch7 c v2 w) Q) := by
  rw [k0_part16_eq_skeleton]
  unfold k0_part16_skel
  simp only [Prog.lift, Prog.bind_op, Prog.bind_ret, Prog.pure_eq_ret]
  iintro H Hk
  iapply (wp_turn m K c 3 3 rfl (by decide) (by decide) (acc m c 4) rfl (recv_sem _ (at7 c 3) _) (at9 c 3) rfl) $$ H; iintro H
  iapply (wp_wwait m K c (off 4) 5 rfl (by decide) (by decide) (slot_sem 5 rfl _)) $$ H; iintro H
  iapply run_ret; iapply Hk; iexact H

theorem part17 (v2 : BitVec 32) {Q : _ → sProp 𝕄} : Mid m K c 10 6 4 (acc m c 4) ⊢ iprop((Mid m K c 11 6 5 (acc m c 4) -∗ Q (k0_pay8 (acc m c 4) (xslot m (c - off 4) c) (wslot m c (c - off 4))))
    -∗ run c (k0_part17 xM hx wM hw oM ho xsM hxs xrM hxr wbM hwb acM hac cc0_scratch4 cc0_scratch5 cc0_scratch6 cc0_scratch7 c v2) Q) := by
  rw [k0_part17_eq_skeleton]
  unfold k0_part17_skel
  simp only [Prog.lift, Prog.bind_op, Prog.bind_ret, Prog.pure_eq_ret]
  iintro H Hk
  iapply (wp_wstart m K c (off 9) 10 rfl (by decide) (by decide) (at5 c 9) rfl (slot_sem 4 rfl _)) $$ H; iintro H
  iapply (wp_land m K c 4 4 rfl (recv_sem _ (at7 c 4) _)) $$ H; iintro H
  iapply (wp_aload m K c) $$ H; iintro H
  iapply (wp_xload m K c 4 (by decide) (at9 c 4)) $$ H; iintro H
  iapply (wp_wload m K c (off 4) (by decide) (by decide) rfl) $$ H; iintro H
  iapply (wp_aload m K c) $$ H; iintro H
  iapply run_ret; iapply Hk; iexact H

theorem part18 (v2 : BitVec 32) {Q : _ → sProp 𝕄} : Mid m K c 11 6 5 (acc m c 4) ⊢ iprop((Mid m K c 12 7 6 (acc m c 5) -∗ Q (acc m c 5))
    -∗ run c (k0_part18 xM hx wM hw oM ho xsM hxs xrM hxr wbM hwb acM hac cc0_scratch4 cc0_scratch5 cc0_scratch6 cc0_scratch7 c v2 (k0_pay8 (acc m c 4) (xslot m (c - off 4) c) (wslot m c (c - off 4)))) Q) := by
  rw [k0_part18_eq_skeleton]
  unfold k0_part18_skel
  simp only [Prog.lift, Prog.bind_op, Prog.bind_ret, Prog.pure_eq_ret]
  iintro H Hk
  iapply (wp_astore m K c (acc m c 5) rfl) $$ H; iintro H
  iapply (wp_wwait m K c (off 5) 6 rfl (by decide) (by decide) (slot_sem 0 rfl _)) $$ H; iintro H
  iapply (wp_wstart m K c (off 10) 11 rfl (by decide) (by decide) (at5 c 10) rfl (slot_sem 5 rfl _)) $$ H; iintro H
  iapply (wp_land m K c 5 5 rfl (recv_sem _ (at7 c 5) _)) $$ H; iintro H
  iapply (wp_aload m K c) $$ H; iintro H
  iapply run_ret; iapply Hk; iexact H

theorem part19 (v2 : BitVec 32) {Q : _ → sProp 𝕄} : Mid m K c 12 7 6 (acc m c 5) ⊢ iprop((∀ r, Mid m K c 13 8 6 (acc m c 6) -∗ Q r)
    -∗ run c (k0_part19 xM hx wM hw oM ho xsM hxs xrM hxr wbM hwb acM hac cc0_scratch4 cc0_scratch5 cc0_scratch6 cc0_scratch7 c v2 (acc m c 5)) Q) := by
  rw [k0_part19_eq_skeleton]
  unfold k0_part19_skel
  simp only [Prog.lift, Prog.bind_op, Prog.bind_ret, Prog.pure_eq_ret]
  iintro H Hk
  iapply (wp_xload m K c 5 (by decide) (at9 c 5)) $$ H; iintro H
  iapply (wp_wload m K c (off 5) (by decide) (by decide) rfl) $$ H; iintro H
  iapply (wp_aload m K c) $$ H; iintro H
  iapply (wp_astore m K c (acc m c 6) rfl) $$ H; iintro H
  iapply (wp_wwait m K c (off 6) 7 rfl (by decide) (by decide) (slot_sem 1 rfl _)) $$ H; iintro H
  iapply (wp_wstart m K c (off 11) 12 rfl (by decide) (by decide) (at5 c 11) rfl (slot_sem 0 rfl _)) $$ H; iintro H
  iapply run_ret; iapply Hk; iexact H

theorem part20 (v2 w : BitVec 32) {Q : _ → sProp 𝕄} : Mid m K c 13 8 6 (acc m c 6) ⊢ iprop((Mid m K c 13 9 7 (acc m c 7) -∗ Q ⟨⟩)
    -∗ run c (k0_part20 xM hx wM hw oM ho xsM hxs xrM hxr wbM hwb acM hac cc0_scratch4 cc0_scratch5 cc0_scratch6 cc0_scratch7 c v2 w) Q) := by
  rw [k0_part20_eq_skeleton]
  unfold k0_part20_skel
  simp only [Prog.lift, Prog.bind_op, Prog.bind_ret, Prog.pure_eq_ret]
  iintro H Hk
  iapply (wp_turn m K c 6 6 rfl (by decide) (by decide) (acc m c 7) rfl (recv_sem _ (at7 c 6) _) (at9 c 6) rfl) $$ H; iintro H
  iapply (wp_wwait m K c (off 7) 8 rfl (by decide) (by decide) (slot_sem 2 rfl _)) $$ H; iintro H
  iapply run_ret; iapply Hk; iexact H

theorem part21 (v2 : BitVec 32) {Q : _ → sProp 𝕄} : Mid m K c 13 9 7 (acc m c 7) ⊢ iprop((∀ r, Mid m K c 14 9 8 (acc m c 8) -∗ Q r)
    -∗ run c (k0_part21 xM hx wM hw oM ho xsM hxs xrM hxr wbM hwb acM hac cc0_scratch4 cc0_scratch5 cc0_scratch6 cc0_scratch7 c v2) Q) := by
  rw [k0_part21_eq_skeleton]
  unfold k0_part21_skel
  simp only [Prog.lift, Prog.bind_op, Prog.bind_ret, Prog.pure_eq_ret]
  iintro H Hk
  iapply (wp_wstart m K c (off 12) 13 rfl (by decide) (by decide) (at5 c 12) rfl (slot_sem 1 rfl _)) $$ H; iintro H
  iapply (wp_turn m K c 7 7 rfl (by decide) (by decide) (acc m c 8) rfl (recv_sem _ (at7 c 7) _) (at9 c 7) rfl) $$ H; iintro H
  iapply run_ret; iapply Hk; iexact H

theorem part22 (v2 w w' : BitVec 32) {Q : _ → sProp 𝕄} : Mid m K c 14 9 8 (acc m c 8) ⊢ iprop((Mid m K c 15 10 9 (acc m c 8) -∗ Q ⟨acc m c 8, k0_pay12 (xslot m (c - off 8) c)⟩)
    -∗ run c (k0_part22 xM hx wM hw oM ho xsM hxs xrM hxr wbM hwb acM hac cc0_scratch4 cc0_scratch5 cc0_scratch6 cc0_scratch7 c v2 w w') Q) := by
  rw [k0_part22_eq_skeleton]
  unfold k0_part22_skel
  simp only [Prog.lift, Prog.bind_op, Prog.bind_ret, Prog.pure_eq_ret]
  iintro H Hk
  iapply (wp_wwait m K c (off 8) 9 rfl (by decide) (by decide) (slot_sem 3 rfl _)) $$ H; iintro H
  iapply (wp_wstart m K c (off 13) 14 rfl (by decide) (by decide) (at5 c 13) rfl (slot_sem 2 rfl _)) $$ H; iintro H
  iapply (wp_land m K c 8 8 rfl (recv_sem _ (at7 c 8) _)) $$ H; iintro H
  iapply (wp_aload m K c) $$ H; iintro H
  iapply (wp_xload m K c 8 (by decide) (at9 c 8)) $$ H; iintro H
  iapply run_ret; iapply Hk; iexact H

theorem part23 (v2 : BitVec 32) {Q : _ → sProp 𝕄} : Mid m K c 15 10 9 (acc m c 8) ⊢ iprop((∀ r, Mid m K c 16 11 9 (acc m c 9) -∗ Q r)
    -∗ run c (k0_part23 xM hx wM hw oM ho xsM hxs xrM hxr wbM hwb acM hac cc0_scratch4 cc0_scratch5 cc0_scratch6 cc0_scratch7 c v2 (acc m c 8) (k0_pay12 (xslot m (c - off 8) c))) Q) := by
  rw [k0_part23_eq_skeleton]
  unfold k0_part23_skel
  simp only [Prog.lift, Prog.bind_op, Prog.bind_ret, Prog.pure_eq_ret]
  iintro H Hk
  iapply (wp_wload m K c (off 8) (by decide) (by decide) rfl) $$ H; iintro H
  iapply (wp_aload m K c) $$ H; iintro H
  iapply (wp_astore m K c (acc m c 9) rfl) $$ H; iintro H
  iapply (wp_wwait m K c (off 9) 10 rfl (by decide) (by decide) (slot_sem 4 rfl _)) $$ H; iintro H
  iapply (wp_wstart m K c (off 14) 15 rfl (by decide) (by decide) (at5 c 14) rfl (slot_sem 3 rfl _)) $$ H; iintro H
  iapply run_ret; iapply Hk; iexact H

theorem part24 (v2 w : BitVec 32) {Q : _ → sProp 𝕄} : Mid m K c 16 11 9 (acc m c 9) ⊢ iprop((∀ r, Mid m K c 16 12 10 (acc m c 10) -∗ Q r)
    -∗ run c (k0_part24 xM hx wM hw oM ho xsM hxs xrM hxr wbM hwb acM hac cc0_scratch4 cc0_scratch5 cc0_scratch6 cc0_scratch7 c v2 w) Q) := by
  rw [k0_part24_eq_skeleton]
  unfold k0_part24_skel
  simp only [Prog.lift, Prog.bind_op, Prog.bind_ret, Prog.pure_eq_ret]
  iintro H Hk
  iapply (wp_turn m K c 9 9 rfl (by decide) (by decide) (acc m c 10) rfl (recv_sem _ (at7 c 9) _) (at9 c 9) rfl) $$ H; iintro H
  iapply (wp_wwait m K c (off 10) 11 rfl (by decide) (by decide) (slot_sem 5 rfl _)) $$ H; iintro H
  iapply run_ret; iapply Hk; iexact H

theorem part25 (v2 w : BitVec 32) {Q : _ → sProp 𝕄} : Mid m K c 16 12 10 (acc m c 10) ⊢ iprop((∀ r, Mid m K c 16 13 11 (acc m c 11) -∗ Q r)
    -∗ run c (k0_part25 xM hx wM hw oM ho xsM hxs xrM hxr wbM hwb acM hac cc0_scratch4 cc0_scratch5 cc0_scratch6 cc0_scratch7 c v2 w) Q) := by
  rw [k0_part25_eq_skeleton]
  unfold k0_part25_skel
  simp only [Prog.lift, Prog.bind_op, Prog.bind_ret, Prog.pure_eq_ret]
  iintro H Hk
  iapply (wp_turn m K c 10 10 rfl (by decide) (by decide) (acc m c 11) rfl (recv_sem _ (at7 c 10) _) (at9 c 10) rfl) $$ H; iintro H
  iapply (wp_wwait m K c (off 11) 12 rfl (by decide) (by decide) (slot_sem 0 rfl _)) $$ H; iintro H
  iapply run_ret; iapply Hk; iexact H

theorem part26 (v2 w : BitVec 32) {Q : _ → sProp 𝕄} : Mid m K c 16 13 11 (acc m c 11) ⊢ iprop((∀ r, Mid m K c 16 14 12 (acc m c 12) -∗ Q r)
    -∗ run c (k0_part26 xM hx wM hw oM ho xsM hxs xrM hxr wbM hwb acM hac cc0_scratch4 cc0_scratch5 cc0_scratch6 cc0_scratch7 c v2 w) Q) := by
  rw [k0_part26_eq_skeleton]
  unfold k0_part26_skel
  simp only [Prog.lift, Prog.bind_op, Prog.bind_ret, Prog.pure_eq_ret]
  iintro H Hk
  iapply (wp_turn m K c 11 11 rfl (by decide) (by decide) (acc m c 12) rfl (recv_sem _ (at7 c 11) _) (at9 c 11) rfl) $$ H; iintro H
  iapply (wp_wwait m K c (off 12) 13 rfl (by decide) (by decide) (slot_sem 1 rfl _)) $$ H; iintro H
  iapply run_ret; iapply Hk; iexact H

theorem part27 (v2 w w' w'' : BitVec 32) {Q : _ → sProp 𝕄} : Mid m K c 16 14 12 (acc m c 12) ⊢ iprop((∀ r, Mid m K c 16 15 13 (acc m c 13) -∗ Q r)
    -∗ run c (k0_part27 xM hx wM hw oM ho xsM hxs xrM hxr wbM hwb acM hac cc0_scratch4 cc0_scratch5 cc0_scratch6 cc0_scratch7 c v2 w w' w'') Q) := by
  rw [k0_part27_eq_skeleton]
  unfold k0_part27_skel
  simp only [Prog.lift, Prog.bind_op, Prog.bind_ret, Prog.pure_eq_ret]
  iintro H Hk
  iapply (wp_turn m K c 12 12 rfl (by decide) (by decide) (acc m c 13) rfl (recv_sem _ (at7 c 12) _) (at9 c 12) rfl) $$ H; iintro H
  iapply (wp_wwait m K c (off 13) 14 rfl (by decide) (by decide) (slot_sem 2 rfl _)) $$ H; iintro H
  iapply run_ret; iapply Hk; iexact H

theorem part28 (v2 w w' : BitVec 32) {Q : _ → sProp 𝕄} : Mid m K c 16 15 13 (acc m c 13) ⊢ iprop((∀ r, Mid m K c 16 16 14 (acc m c 14) -∗ Q r)
    -∗ run c (k0_part28 xM hx wM hw oM ho xsM hxs xrM hxr wbM hwb acM hac cc0_scratch4 cc0_scratch5 cc0_scratch6 cc0_scratch7 c v2 w w') Q) := by
  rw [k0_part28_eq_skeleton]
  unfold k0_part28_skel
  simp only [Prog.lift, Prog.bind_op, Prog.bind_ret, Prog.pure_eq_ret]
  iintro H Hk
  iapply (wp_turn m K c 13 13 rfl (by decide) (by decide) (acc m c 14) rfl (recv_sem _ (at7 c 13) _) (at9 c 13) rfl) $$ H; iintro H
  iapply (wp_wwait m K c (off 14) 15 rfl (by decide) (by decide) (slot_sem 3 rfl _)) $$ H; iintro H
  iapply run_ret; iapply Hk; iexact H

end Cert.Exchange
-- ==== Proof.Body3.lean ====
/-
The end of the body: the result stored, the sends waited for; the whole body in order.
-/
module

public import proofs.«01_k».proof.Proof.Body2

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 32 → ℕ) (c : Dev nD)

/-- The sends done, what else there is at that point. -/
def Rest : sProp 𝕄 :=
  iprop(WSt m c 16 16 ∗ Rcv m c 15 ∗ owns (c : Thread nD τ) acM fullShare (fin m c) ∗ owns (c : Thread nD τ) oM fullShare (fin m c)
    ∗ semVal ((c : Thread nD τ), .dma outS) 0)

theorem part29 (v2 w w' : BitVec 32) {Q : _ → sProp 𝕄} :
    iprop(Mid m K c 16 16 14 (acc m c 14) ∗ Out c ∗ (span 0 15 fun i : Fin 15 => cred (tallyAt (sendCell c i) () N))
        ∗ (span 0 15 fun i : Fin 15 => atPos ER (sendCell c i) 0 ∅ 0))
      ⊢ iprop((∀ r, Snd m K c 1 -∗ Rest m c -∗ Q r)
    -∗ run c (k0_part29 xM hx wM hw oM ho xsM hxs xrM hxr wbM hwb acM hac cc0_scratch4 cc0_scratch5 cc0_scratch6 cc0_scratch7 c v2 w w') Q) := by
  rw [k0_part29_eq_skeleton]
  unfold k0_part29_skel
  simp only [Prog.lift, Prog.bind_op, Prog.bind_ret, Prog.pure_eq_ret]
  iintro ⟨H, HO, HC, HA⟩ Hk
  iapply (wp_turn m K c 14 14 rfl (by decide) (by decide) (fin m c) rfl (recv_sem _ (at7 c 14) _) (at9 c 14) rfl) $$ H; iintro H
  unfold Mid
  icases H with ⟨#Hctx, Ho, HW, HR, Hacc⟩
  iapply (wp_ostart c (fin m c) out_sem) $$ [Hacc HO]
  · isplitl [Hacc] <;> iassumption
  iintro Hf
  iapply (wp_owait c (fin m c) out_sem) $$ [Hf Ho]
  · isplitl [Hf] <;> iassumption
  iintro ⟨Hout, Hacc, Hv, Ho⟩
  iapply (wp_sent m K c 0 0 rfl (send_sem 0 rfl _)) $$ [Ho HC HA]
  · unfold Snd
    rw [span_sep, span_none (a := 0) (b := 0) (Nat.le_refl _)]
    isplitr; · iexact Hctx
    isplitl [Ho]; · iexact Ho
    isplitl [HC HA]
    · isplitl [HC] <;> iassumption
    · iempintro
  iintro H
  iapply run_ret
  iapply Hk $$ H
  unfold Rest
  isplitl [HW]; · iexact HW
  isplitl [HR]; · iexact HR
  isplitl [Hacc]; · iexact Hacc
  isplitl [Hout] <;> iassumption

theorem part30 (v2 w : BitVec 32) {Q : _ → sProp 𝕄} : Snd m K c 1 ⊢ iprop((Snd m K c 4 -∗ Q ⟨⟩)
    -∗ run c (k0_part30 xM hx wM hw oM ho xsM hxs xrM hxr wbM hwb acM hac cc0_scratch4 cc0_scratch5 cc0_scratch6 cc0_scratch7 c v2 w) Q) := by
  rw [k0_part30_eq_skeleton]
  unfold k0_part30_skel
  simp only [Prog.lift, Prog.bind_op, Prog.bind_ret, Prog.pure_eq_ret]
  iintro H Hk
  iapply (wp_sent m K c 1 1 rfl (send_sem 1 rfl _)) $$ H; iintro H
  iapply (wp_sent m K c 2 2 rfl (send_sem 2 rfl _)) $$ H; iintro H
  iapply (wp_sent m K c 3 3 rfl (send_sem 3 rfl _)) $$ H; iintro H
  iapply run_ret; iapply Hk; iexact H

theorem part31 (v2 : BitVec 32) {Q : _ → sProp 𝕄} : Snd m K c 4 ⊢ iprop((∀ r, Snd m K c 8 -∗ Q r)
    -∗ run c (k0_part31 xM hx wM hw oM ho xsM hxs xrM hxr wbM hwb acM hac cc0_scratch4 cc0_scratch5 cc0_scratch6 cc0_scratch7 c v2) Q) := by
  rw [k0_part31_eq_skeleton]
  unfold k0_part31_skel
  simp only [Prog.lift, Prog.bind_op, Prog.bind_ret, Prog.pure_eq_ret]
  iintro H Hk
  iapply (wp_sent m K c 4 4 rfl (send_sem 4 rfl _)) $$ H; iintro H
  iapply (wp_sent m K c 5 5 rfl (send_sem 5 rfl _)) $$ H; iintro H
  iapply (wp_sent m K c 6 6 rfl (send_sem 6 rfl _)) $$ H; iintro H
  iapply (wp_sent m K c 7 7 rfl (send_sem 7 rfl _)) $$ H; iintro H
  iapply run_ret; iapply Hk; iexact H

theorem part32 (v2 w w' : BitVec 32) {Q : _ → sProp 𝕄} : Snd m K c 8 ⊢ iprop((Snd m K c 11 -∗ Q ⟨⟩)
    -∗ run c (k0_part32 xM hx wM hw oM ho xsM hxs xrM hxr wbM hwb acM hac cc0_scratch4 cc0_scratch5 cc0_scratch6 cc0_scratch7 c v2 w w') Q) := by
  rw [k0_part32_eq_skeleton]
  unfold k0_part32_skel
  simp only [Prog.lift, Prog.bind_op, Prog.bind_ret, Prog.pure_eq_ret]
  iintro H Hk
  iapply (wp_sent m K c 8 8 rfl (send_sem 8 rfl _)) $$ H; iintro H
  iapply (wp_sent m K c 9 9 rfl (send_sem 9 rfl _)) $$ H; iintro H
  iapply (wp_sent m K c 10 10 rfl (send_sem 10 rfl _)) $$ H; iintro H
  iapply run_ret; iapply Hk; iexact H

/-! ## The send buffer, cut and joined -/

/-- The devices but one, by an injection from fifteen that misses it. -/
theorem around {M : Type} [URA M] (c : Dev nD) (e : Fin 15 → Dev nD) (hi : Function.Injective e) (hc : ∀ k, e k ≠ c) (Φ : Dev nD → sProp M) :
    bigSep Finset.univ Φ = iprop(Φ c ∗ span 0 15 fun k => Φ (e k)) := by
  have hs : (Finset.univ : Finset (Dev nD)) = insert c ((Finset.univ : Finset (Fin 15)).map ⟨e, hi⟩) := by
    refine (Finset.eq_univ_of_card _ ?_).symm
    rw [Finset.card_insert_of_notMem, Finset.card_map]
    · rfl
    · rw [Finset.mem_map]; rintro ⟨k, -, hk⟩; exact hc k hk
  rw [span_all, hs]
  refine (bigSep_insert ?_).trans ?_
  · rw [Finset.mem_map]; rintro ⟨k, -, hk⟩; exact hc k hk
  · rw [BI.bigSep_map]; rfl

theorem add_ord_inj : Function.Injective fun k => c + ord k := by revert c; decide +kernel
theorem sub_off_inj : Function.Injective fun k => c - off k := by revert c; decide +kernel
theorem add_off_inj : Function.Injective fun k => c + off k := by revert c; decide +kernel
theorem add_off_ne (j : Fin 15) : c + off j ≠ c := by revert c j; decide +kernel

theorem part33 (Q : (Σ' (_ : Dev nD), BitVec 32) → sProp 𝕄) (X : Vec F S4096x256 .bf16) (A : Vec F S256x2048 .f32) (T : sProp 𝕄)
    (hT : iprop((ctx m K ∗ owing c (owedSend c 0) ∗ atPos ER (barCell c) 1 ∅ 0 ∗ span 0 15 (room (F := F) c))
      ∗ owns (c : Thread nD τ) xsM fullShare (xnar m c) ∗ T) ⊢ iprop(SendSt m K c 0 ∗ atPos ER (barCell c) 1 ∅ 0 ∗ owns (c : Thread nD τ) (xsB c) fullShare (xblk m c c))) :
    iprop(SigSt m K c 0 ∗ (cred (tallyAt (barCell c) () 15) ∗ atPos ER (barCell c) 0 ∅ 0) ∗ owns (c : Thread nD τ) xM fullShare (xstg m c)
        ∗ owns (c : Thread nD τ) xsM fullShare X ∗ T ∗ WSt m c 0 0 ∗ Rcv m c 0 ∗ owns (c : Thread nD τ) acM fullShare A ∗ Out c
        ∗ (span 0 15 fun i : Fin 15 => atPos ER (sendCell c i) 0 ∅ 0))
      ⊢ iprop((∀ v2, Snd m K c 13 -∗ Rest m c -∗ owns (c : Thread nD τ) xM fullShare (xstg m c) -∗ atPos ER (barCell c) 1 ∅ 0
          -∗ owns (c : Thread nD τ) (xsB c) fullShare (xblk m c c) -∗ Q ⟨c, v2⟩)
    -∗ run c (k0_part33 xM hx wM hw oM ho xsM hxs xrM hxr wbM hwb acM hac cc0_scratch4 cc0_scratch5 cc0_scratch6 cc0_scratch7) Q) := by
  have step {α β : Type} (p : Prog (TpuEff nD τ sig (Elt F) Λ₀ .tc) α) (k : α → Prog (TpuEff nD τ sig (Elt F) Λ₀ .tc) β) (Q : β → sProp 𝕄) :
      run c p (fun a => run c (k a) Q) ⊢ run c (p >>= k) Q := Entails.of_eq (wp_bind ..).symm
  rw [k0_part33_eq_skeleton]
  unfold k0_part33_skel
  iintro ⟨H, Hb, Hx, Hxs, HT, HW, HR, Ha, HO, Hs⟩ Hk
  iapply step; iapply (part1 m K c) $$ H; iintro %v2 %v24 %w H
  iapply step; iapply (part2 m K c) $$ H; iintro %r H
  iapply step; iapply (part3 m K c _ _ _ X) $$ [H Hb Hx Hxs]
  · isplitl [H]; · iexact H
    isplitl [Hb]; · iexact Hb
    isplitl [Hx] <;> iassumption
  iintro %r' H Hx Hxs
  ihave H := hT $$ [H Hxs HT]
  · isplitl [H]; · iexact H
    isplitl [Hxs] <;> iassumption
  icases H with ⟨H, Hbar, Hown⟩
  iapply step; iapply (part4 m K c) $$ H; iintro %r1 H
  iapply step; iapply (part5 m K c) $$ H; iintro H
  iapply step; iapply (part6 m K c) $$ H; iintro H
  iapply step; iapply (part7 m K c) $$ H; iintro %r2 H
  iapply step; iapply (part8 m K c) $$ H; iintro %r3 H
  iapply step; iapply (part9 m K c _ _ A) $$ [H HW HR Ha]
  · isplitl [H]; · iexact H
    isplitl [HW]; · iexact HW
    isplitl [HR] <;> iassumption
  iintro H Hcr
  iapply step; iapply (part10 m K c) $$ H; iintro %r4 H
  iapply step; iapply (part11 m K c A) $$ [H Hx]
  · isplitl [H] <;> iassumption
  iintro H Hx
  iapply step; iapply (part12 m K c) $$ H; iintro H
  iapply step; iapply (part13 m K c) $$ H; iintro H
  iapply step; iapply (part14 m K c) $$ H; iintro %r5 H
  iapply step; iapply (part15 m K c) $$ H; iintro %r6 H
  iapply step; iapply (part16 m K c) $$ H; iintro H
  iapply step; iapply (part17 m K c) $$ H; iintro H
  iapply step; iapply (part18 m K c) $$ H; iintro H
  iapply step; iapply (part19 m K c) $$ H; iintro %r7 H
  iapply step; iapply (part20 m K c) $$ H; iintro H
  iapply step; iapply (part21 m K c) $$ H; iintro %r8 H
  iapply step; iapply (part22 m K c) $$ H; iintro H
  iapply step; iapply (part23 m K c) $$ H; iintro %r9 H
  iapply step; iapply (part24 m K c) $$ H; iintro %r10 H
  iapply step; iapply (part25 m K c) $$ H; iintro %r11 H
  iapply step; iapply (part26 m K c) $$ H; iintro %r12 H
  iapply step; iapply (part27 m K c) $$ H; iintro %r13 H
  iapply step; iapply (part28 m K c) $$ H; iintro %r14 H
  iapply step; iapply (part29 m K c) $$ [H HO Hcr Hs]
  · isplitl [H]; · iexact H
    isplitl [HO]; · iexact HO
    isplitl [Hcr] <;> iassumption
  iintro %r15 H HRest
  iapply step; iapply (part30 m K c) $$ H; iintro H
  iapply step; iapply (part31 m K c) $$ H; iintro %r16 H
  iapply step; iapply (part32 m K c) $$ H; iintro H
  simp only [Prog.lift, Prog.bind_op, Prog.bind_ret, Prog.pure_eq_ret]
  iapply (wp_sent m K c 11 11 rfl (send_sem 11 rfl _)) $$ H; iintro H
  iapply (wp_sent m K c 12 12 rfl (send_sem 12 rfl _)) $$ H; iintro H
  iapply run_ret
  iapply Hk $$ H HRest Hx Hbar Hown

end Cert.Exchange
-- ==== Proof.Body4.lean ====
/-
What the body takes and leaves: the buffers cut into blocks and joined again, the cells closed.
-/
module

public import proofs.«01_k».proof.Proof.Body3

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 32 → ℕ) (c : Dev nD)

/-! ## Buffers cut along their first axis -/

/-- The rectangles are disjoint and cover the shape. -/
def Cuts {s : Shape} {n : ℕ} (r : Fin n → Rect s) : Prop :=
  (∀ p p', p ≠ p' → Disjoint (r p).set (r p').set) ∧ (Finset.univ : Finset (Fin n)).biUnion (fun p => (r p).set) = Finset.univ

/-- Rectangles of one thickness, one after the other along axis `a₀`, whole along the others: disjoint, and covering. -/
theorem cut {s : Shape} {n : ℕ} (a₀ : Fin s.rank) {size : Fin s.rank → ℕ} (o : Fin n → Fin s.rank → ℕ) (inb : ∀ p a, o p a + size a ≤ s.size a)
    (hn : s.size a₀ = size a₀ * n) (h₀ : ∀ p, o p a₀ = size a₀ * p.val) (hz : ∀ p a, a ≠ a₀ → o p a = 0 ∧ size a = s.size a) :
    Cuts fun p => Rect.unit (o p) size (inb p) := by
  constructor
  · intro p p' hp
    refine Rect.unit_disjoint a₀ ?_
    rw [h₀, h₀]
    rcases Nat.lt_or_gt_of_ne fun h => hp (Fin.ext h) with h | h
    · exact .inl (by rw [← Nat.mul_succ]; exact Nat.mul_le_mul_left _ h)
    · exact .inr (by rw [← Nat.mul_succ]; exact Nat.mul_le_mul_left _ h)
  · ext i
    simp only [Finset.mem_biUnion, Finset.mem_univ, true_and, iff_true]
    have hi : (i a₀).val < size a₀ * n := hn ▸ (i a₀).isLt
    refine ⟨⟨(i a₀).val / size a₀, Nat.div_lt_of_lt_mul hi⟩, Rect.mem_set_unit.mpr fun a => ?_⟩
    by_cases ha : a = a₀
    · subst ha
      rw [h₀]
      have hpos : 0 < size a := Nat.pos_of_mul_pos_right (Nat.lt_of_le_of_lt (Nat.zero_le _) hi)
      exact ⟨Nat.mul_div_le _ _, Nat.lt_mul_div_succ _ hpos⟩
    · obtain ⟨h1, h2⟩ := hz ⟨(i a₀).val / size a₀, Nat.div_lt_of_lt_mul hi⟩ a ha
      rw [h1, h2]
      exact ⟨Nat.zero_le _, by rw [Nat.zero_add]; exact (i a).isLt⟩

theorem xs_cut : Cuts xsR := cut (s := S4096x256) (n := 16) 0 (fun p => ![256 * p.val, 0]) xs_inb (by decide) (fun p => rfl) (by decide)
theorem xr_cut : Cuts xrR := cut (s := S16x256x256) (n := 16) 0 (fun p => ![p.val, 0, 0]) xr_inb (by decide) (by decide) (by decide)
theorem wb_cut : Cuts wbR := cut (s := S6x256x2048) (n := 6) 0 (fun p => ![p.val, 0, 0]) wb_inb (by decide) (by decide) (by decide)
theorem w_cut : Cuts wR := cut (s := S4096x2048) (n := 16) 0 (fun p => ![256 * p.val, 0]) w_inb (by decide) (fun p => rfl) (by decide)

/-- Blocks of a buffer at any contents are the buffer at some contents. -/
theorem owns_glue {sp : Space} {s : Shape} {e : EltTy} {n : ℕ} (M : Memref sig .tc sp s e) (r : Fin n → Rect s) (hr : ∀ t a, (r t).stride a = 1) (h : Cuts r) :
    (bigSep Finset.univ fun t => iprop(∃ Y, owns (c : Thread nD τ) (M.slice (r t) (hr t)) fullShare Y))
      ⊢ (iprop(∃ X, owns (c : Thread nD τ) M fullShare X) : sProp 𝕄) := by
  iintro H
  ihave H := (BI.bigSep_exists_pi Finset.univ (fun t Y => (owns (c : Thread nD τ) (M.slice (r t) (hr t)) fullShare Y : sProp 𝕄))) $$ H
  icases H with ⟨%Y, H⟩
  iexists (Rect.glue r h.2 Y)
  iapply (owns_of_rects (c : Thread nD τ) M fullShare r hr h.1 h.2 (Rect.glue r h.2 Y))
  rw [show (fun t => (owns (c : Thread nD τ) (M.slice (r t) (hr t)) fullShare (fun j => Rect.glue r h.2 Y ((r t).emb j)) : sProp 𝕄))
    = fun t => owns (c : Thread nD τ) (M.slice (r t) (hr t)) fullShare (Y t) from
      funext fun t => congrArg _ (funext fun j => Rect.glue_emb r h.2 h.1 Y t j)]
  iexact H

/-- and back. -/
theorem owns_any {sp : Space} {s : Shape} {e : EltTy} {n : ℕ} (M : Memref sig .tc sp s e) (r : Fin n → Rect s) (hr : ∀ t a, (r t).stride a = 1) (h : Cuts r) :
    iprop(∃ X, owns (c : Thread nD τ) M fullShare X)
      ⊢ (bigSep Finset.univ fun t => iprop(∃ Y, owns (c : Thread nD τ) (M.slice (r t) (hr t)) fullShare Y) : sProp 𝕄) := by
  have hm (X : s.Idx → Elt F e) (t : Fin n) : (owns (c : Thread nD τ) (M.slice (r t) (hr t)) fullShare (fun j => X ((r t).emb j)) : sProp 𝕄)
      ⊢ iprop(∃ Y, owns (c : Thread nD τ) (M.slice (r t) (hr t)) fullShare Y) := by
    iintro H; iexists _; iexact H
  have hs (X : s.Idx → Elt F e) := (owns_rects (c : Thread nD τ) M fullShare r hr h.1 h.2 X).trans (bigSep_mono fun t _ => hm X t)
  iintro ⟨%X, H⟩
  iapply (hs X); iexact H

/-! ## The send buffer -/

/-- The tokens of the transfers out of device `c`. -/
def Toks : sProp 𝕄 := span 0 15 fun i : Fin 15 => iprop(dutyTok ER (recvCell (c + ord i) c) 0 0 ∗ dutyTok ER (sendCell c i) 0 0)

theorem xs_split : owns (c : Thread nD τ) xsM fullShare (xnar m c)
    ⊢ iprop(owns (c : Thread nD τ) (xsB c) fullShare (xblk m c c) ∗ span 0 15 (source m c)) :=
  (owns_rects (c : Thread nD τ) xsM fullShare xsR (fun _ _ => rfl) xs_cut.1 xs_cut.2 (xnar m c)).trans
    (Entails.of_eq (around c (fun k => c + ord k) (add_ord_inj c) (fun k => ord_ne k c) fun p => owns (c : Thread nD τ) (xsB p) fullShare (xblk m c p)))
theorem xs_join : iprop(owns (c : Thread nD τ) (xsB c) fullShare (xblk m c c) ∗ span 0 15 (source m c))
    ⊢ owns (c : Thread nD τ) xsM fullShare (xnar m c) :=
  (Entails.of_eq (around c (fun k => c + ord k) (add_ord_inj c) (fun k => ord_ne k c) fun p => owns (c : Thread nD τ) (xsB p) fullShare (xblk m c p)).symm).trans
    (owns_of_rects (c : Thread nD τ) xsM fullShare xsR (fun _ _ => rfl) xs_cut.1 xs_cut.2 (xnar m c))

theorem sends_begin :
    iprop((ctx m K ∗ owing c (owedSend c 0) ∗ atPos ER (barCell c) 1 ∅ 0 ∗ span 0 15 (room (F := F) c))
      ∗ owns (c : Thread nD τ) xsM fullShare (xnar m c) ∗ Toks c)
      ⊢ iprop(SendSt m K c 0 ∗ atPos ER (barCell c) 1 ∅ 0 ∗ owns (c : Thread nD τ) (xsB c) fullShare (xblk m c c)) := by
  unfold SendSt Toks
  rw [span_none (a := 0) (b := 0) (Nat.le_refl _), span_sep, span_sep, span_sep, span_sep]
  iintro ⟨⟨HC, HO, Hat, Hroom⟩, Hxs, HT₁, HT₂⟩
  ihave Hxs := xs_split m c $$ Hxs
  icases Hxs with ⟨Hown, Hsrc⟩
  isplitr [Hat Hown]
  · isplitl [HC]; · iexact HC
    isplitl [HO]; · iexact HO
    isplitl
    · isplitl [HT₁]; · iexact HT₁
      isplitl [HT₂]; · iexact HT₂
      isplitl [Hroom] <;> iassumption
    · iempintro
  · isplitl [Hat] <;> iassumption

/-! ## The landing buffer -/

theorem xr_split : iprop(∃ X, owns (c : Thread nD τ) xrM fullShare X)
    ⊢ iprop((∃ X, owns (c : Thread nD τ) (xrB c) fullShare X)
        ∗ (span 0 15 fun i : Fin 15 => iprop(∃ X, owns (c : Thread nD τ) (xrB (c + off i)) fullShare X)) : sProp 𝕄) :=
  (owns_any c xrM xrR (fun _ _ => rfl) xr_cut).trans
    (Entails.of_eq (around c (fun k => c + off k) (add_off_inj c) (add_off_ne c) fun p => iprop(∃ X, owns (c : Thread nD τ) (xrB p) fullShare X)))

theorem xr_join : iprop((∃ X, owns (c : Thread nD τ) (xrB c) fullShare X) ∗ span 0 15 fun t : Fin 15 => landed m c (c - off t))
    ⊢ iprop(∃ X, owns (c : Thread nD τ) xrM fullShare X) := by
  refine (show _ ⊢ bigSep Finset.univ fun p => iprop(∃ X, owns (c : Thread nD τ) (xrB p) fullShare X) from ?_).trans (owns_glue c xrM xrR (fun _ _ => rfl) xr_cut)
  rw [around c (fun k => c - off k) (sub_off_inj c) (sub_off_ne c)]
  have hm (t : Fin 15) : landed (F := F) m c (c - off t) ⊢ iprop(∃ X, owns (c : Thread nD τ) (xrB (c - off t)) fullShare X) := by
    unfold landed
    iintro H; iexists _; iexact H
  iintro ⟨H, Hs⟩
  isplitl [H]; · iexact H
  iapply (span_mono 0 15 hm); iexact Hs

/-! ## The weights and their slots -/

/-- The weights whole are the sources of the sixteen copies. -/
theorem w_srcs : owns (c : Thread nD τ) wM fullShare (wts m c) = span 0 16 (wsrc m c) := by
  have h : (bigSep Finset.univ fun p => owns (c : Thread nD τ) (wB p) fullShare (wblk m c p)) = span 0 16 (wsrc m c) := by
    rw [span_all, bigSep_univ_equiv (Equiv.ofBijective (fun t : Fin 16 => c - t) (by revert c; decide +kernel))]; rfl
  have h₁ : owns (c : Thread nD τ) wM fullShare (wts m c) ⊢ span 0 16 (wsrc m c) :=
    (owns_rects (c : Thread nD τ) wM fullShare wR (fun _ _ => rfl) w_cut.1 w_cut.2 (wts m c)).trans (Entails.of_eq h)
  have h₂ : span 0 16 (wsrc m c) ⊢ owns (c : Thread nD τ) wM fullShare (wts m c) :=
    (Entails.of_eq h.symm).trans (owns_of_rects (c : Thread nD τ) wM fullShare wR (fun _ _ => rfl) w_cut.1 w_cut.2 (wts m c))
  exact BI.Entails.antisymm h₁ h₂

/-- A slot and its semaphore, nothing in flight. -/
def wslot₀ (s : Fin 6) : sProp 𝕄 :=
  iprop(semVal ((c : Thread nD τ), .dma (slotS s)) 0 ∗ ∃ X, owns (c : Thread nD τ) (wbB s) fullShare X)

theorem slots_split : iprop((∃ X, owns (c : Thread nD τ) wbM fullShare X) ∗ bigSep Finset.univ fun s : Fin 6 => semVal ((c : Thread nD τ), .dma (slotS s)) 0)
    ⊢ (bigSep Finset.univ (wslot₀ (F := F) c)) := by
  unfold wslot₀
  rw [bigSep_sep']
  iintro ⟨H, Hv⟩
  isplitl [Hv]; · iexact Hv
  iapply (owns_any c wbM wbR (fun _ _ => rfl) wb_cut); iexact H
theorem slots_join : (bigSep Finset.univ (wslot₀ (F := F) c))
    ⊢ iprop((∃ X, owns (c : Thread nD τ) wbM fullShare X) ∗ bigSep Finset.univ fun s : Fin 6 => semVal ((c : Thread nD τ), .dma (slotS s)) 0) := by
  unfold wslot₀
  rw [bigSep_sep']
  iintro ⟨Hv, H⟩
  isplitl [H]; · iapply (owns_glue c wbM wbR (fun _ _ => rfl) wb_cut); iexact H
  iexact Hv

theorem idle_none (u : Fin 22) (hu : u.val < 6) : wslot₀ c (slot u.val) ⊢ widle m c u := by
  unfold wslot₀ widle
  iintro ⟨Hv, %X, H⟩
  isplitl [Hv]; · iexact Hv
  iexists X
  isplitr; · ipureintro; intro t ht; omega
  iexact H
theorem idle_some (u : Fin 22) : widle m c u ⊢ wslot₀ c (slot u.val) := by
  unfold wslot₀ widle
  iintro ⟨Hv, %X, -, H⟩
  isplitl [Hv]; · iexact Hv
  iexists X
  iexact H

/-- The six slots, before the first copy and after the last. -/
theorem idle_begin : bigSep Finset.univ (wslot₀ c) ⊢ span 0 (0 + 6) (widle m c) := by
  rw [show bigSep Finset.univ (wslot₀ (F := F) c) = iprop(wslot₀ c 0 ∗ wslot₀ c 1 ∗ wslot₀ c 2 ∗ wslot₀ c 3 ∗ wslot₀ c 4 ∗ wslot₀ c 5)
    from BI.bigSep_univ_eq_bigSepL [0, 1, 2, 3, 4, 5] (by decide) (by decide) _]
  rw [span_pop (a := 0) (b := 6) 0 rfl (by decide), span_pop (a := 1) (b := 6) 1 rfl (by decide), span_pop (a := 2) (b := 6) 2 rfl (by decide), span_pop (a := 3) (b := 6) 3 rfl (by decide), span_pop (a := 4) (b := 6) 4 rfl (by decide),
    span_pop (a := 5) (b := 6) 5 rfl (by decide), span_none (a := 6) (b := 6) (by decide)]
  iintro ⟨H0, H1, H2, H3, H4, H5⟩
  isplitl [H0]; · iapply (idle_none m c 0 (by decide)); iexact H0
  isplitl [H1]; · iapply (idle_none m c 1 (by decide)); iexact H1
  isplitl [H2]; · iapply (idle_none m c 2 (by decide)); iexact H2
  isplitl [H3]; · iapply (idle_none m c 3 (by decide)); iexact H3
  isplitl [H4]; · iapply (idle_none m c 4 (by decide)); iexact H4
  isplitl [H5]; · iapply (idle_none m c 5 (by decide)); iexact H5
  iempintro
theorem idle_end : span 16 (16 + 6) (widle m c) ⊢ bigSep Finset.univ (wslot₀ c) := by
  rw [show bigSep Finset.univ (wslot₀ (F := F) c) = iprop(wslot₀ c 4 ∗ wslot₀ c 5 ∗ wslot₀ c 0 ∗ wslot₀ c 1 ∗ wslot₀ c 2 ∗ wslot₀ c 3)
    from BI.bigSep_univ_eq_bigSepL [4, 5, 0, 1, 2, 3] (by decide) (by decide) _]
  rw [span_pop (a := 16) (b := 22) 16 rfl (by decide), span_pop (a := 17) (b := 22) 17 rfl (by decide), span_pop (a := 18) (b := 22) 18 rfl (by decide), span_pop (a := 19) (b := 22) 19 rfl (by decide), span_pop (a := 20) (b := 22) 20 rfl (by decide),
    span_pop (a := 21) (b := 22) 21 rfl (by decide), span_none (a := 22) (b := 22) (by decide)]
  iintro ⟨H0, H1, H2, H3, H4, H5, -⟩
  isplitl [H0]; · iapply (idle_some m c 16); iexact H0
  isplitl [H1]; · iapply (idle_some m c 17); iexact H1
  isplitl [H2]; · iapply (idle_some m c 18); iexact H2
  isplitl [H3]; · iapply (idle_some m c 19); iexact H3
  isplitl [H4]; · iapply (idle_some m c 20); iexact H4
  iapply (idle_some m c 21); iexact H5

theorem copies_begin : iprop(owns (c : Thread nD τ) wM fullShare (wts m c) ∗ (∃ X, owns (c : Thread nD τ) wbM fullShare X)
      ∗ bigSep Finset.univ fun s : Fin 6 => semVal ((c : Thread nD τ), .dma (slotS s)) 0) ⊢ WSt m c 0 0 := by
  unfold WSt
  rw [w_srcs, span_none (a := 0) (b := 0) (Nat.le_refl _), span_none (a := 0) (b := 0) (Nat.le_refl _)]
  iintro ⟨Hw, H⟩
  ihave H := slots_split c $$ H
  isplitl [Hw]; · iexact Hw
  isplitr; · iempintro
  isplitl; · iapply (idle_begin m c); iexact H
  iempintro

theorem copies_end : WSt m c 16 16 ⊢ iprop(owns (c : Thread nD τ) wM fullShare (wts m c) ∗ (∃ X, owns (c : Thread nD τ) wbM fullShare X)
      ∗ bigSep Finset.univ fun s : Fin 6 => semVal ((c : Thread nD τ), .dma (slotS s)) 0) := by
  unfold WSt
  rw [w_srcs]
  iintro ⟨-, -, H, Hw⟩
  isplitl [Hw]; · iexact Hw
  iapply (slots_join c)
  iapply (idle_end m c); iexact H

/-! ## The cells closed -/

theorem close_at {g : GSem nD τ sig} {κ : ℕ} (R : ℕ) (hR : ∀ r, R ≤ r → (Rd (F := F) m).duties g r = ∅) :
    iprop(cellInv ER (Rd m) κ g ∗ atPos ER g R ∅ 0) ⊢ iprop(|={Set.univ}=> semVal g 0) :=
  Rounds.cell_close ER (Rd m) (Set.mem_univ κ) (fun h => h) hR

theorem close_bar : iprop(ctx m K ∗ atPos ER (barCell c) 1 ∅ 0) ⊢ iprop(|={Set.univ}=> semVal (barCell c) 0) := by
  iintro ⟨#HC, H⟩
  ihave HI := ctx_bar m K c $$ HC
  icases HI with ⟨#HI, -⟩
  iapply (close_at m 1 (duties_later m _))
  isplitr <;> iassumption
theorem close_send (k : Fin 15) : iprop(ctx m K ∗ atPos ER (sendCell c k) 1 ∅ 0) ⊢ iprop(|={Set.univ}=> semVal (sendCell c k) 0) := by
  iintro ⟨#HC, H⟩
  ihave HI := ctx_send m K c k $$ HC
  icases HI with ⟨#HI, -⟩
  iapply (close_at m 1 (duties_later m _))
  isplitr <;> iassumption
theorem close_recv (p : Fin 16) : iprop(ctx m K ∗ atPos ER (recvCell c p) 1 ∅ 0) ⊢ iprop(|={Set.univ}=> semVal (recvCell c p) 0) := by
  iintro ⟨#HC, H⟩
  ihave HI := ctx_recv m K c p $$ HC
  icases HI with ⟨#HI, -⟩
  iapply (close_at m 1 (duties_later m _))
  isplitr <;> iassumption
theorem close_self : iprop(ctx m K ∗ atPos ER (recvCell c c) 0 ∅ 0) ⊢ iprop(|={Set.univ}=> semVal (recvCell c c) 0) := by
  iintro ⟨#HC, H⟩
  ihave HI := ctx_recv m K c c $$ HC
  icases HI with ⟨#HI, -⟩
  iapply (close_at m 0 fun r _ => by rcases Nat.eq_zero_or_pos r with rfl | h; exacts [duties_self m c, duties_later m _ r h])
  isplitr <;> iassumption

/-- Each of a family closed, by what is common. -/
theorem close_all {n : ℕ} {P : sProp 𝕄} [BI.Persistent P] {Φ Ψ : Fin n → sProp 𝕄} (h : ∀ k, iprop(P ∗ Φ k) ⊢ iprop(|={Set.univ}=> Ψ k)) :
    iprop(P ∗ span 0 n Φ) ⊢ iprop(|={Set.univ}=> span 0 n Ψ) := by
  rw [span_all, span_all]
  refine ((sep_mono_left (BI.bigSep_of_persistent Finset.univ P)).trans (Entails.of_eq (BI.bigSep_sep' _ _ _).symm)).trans ?_
  exact (bigSep_mono fun k _ => h k).trans (BI.bigSep_fupd _ _)

/-! ## The body -/

/-- What the body takes: -/
def Pre : sProp 𝕄 :=
  iprop(SigSt m K c 0 ∗ (cred (tallyAt (barCell c) () 15) ∗ atPos ER (barCell c) 0 ∅ 0) ∗ owns (c : Thread nD τ) xM fullShare (xstg m c)
    ∗ (∃ X, owns (c : Thread nD τ) xsM fullShare X) ∗ Toks c ∗ (∃ X, owns (c : Thread nD τ) (xrB c) fullShare X) ∗ WSt m c 0 0 ∗ Rcv m c 0
    ∗ (∃ A, owns (c : Thread nD τ) acM fullShare A) ∗ Out c ∗ (span 0 15 fun i : Fin 15 => atPos ER (sendCell c i) 0 ∅ 0)
    ∗ atPos ER (recvCell c c) 0 ∅ 0)

/-- and leaves: the staged block and the weights unchanged, the result, the buffers, every semaphore at zero. -/
def Post : sProp 𝕄 :=
  iprop(owing c 0 ∗ owns (c : Thread nD τ) xM fullShare (xstg m c) ∗ owns (c : Thread nD τ) oM fullShare (fin m c) ∗ owns (c : Thread nD τ) wM fullShare (wts m c)
    ∗ ((∃ X, owns (c : Thread nD τ) xsM fullShare X) ∗ (∃ X, owns (c : Thread nD τ) xrM fullShare X) ∗ (∃ X, owns (c : Thread nD τ) wbM fullShare X)
      ∗ (∃ X, owns (c : Thread nD τ) acM fullShare X))
    ∗ semVal (barCell c) 0 ∗ (span 0 15 fun i : Fin 15 => semVal (sendCell c i) 0) ∗ (bigSep Finset.univ fun p : Fin 16 => semVal (recvCell c p) 0)
    ∗ (bigSep Finset.univ fun s : Fin 6 => semVal ((c : Thread nD τ), .dma (slotS s)) 0) ∗ semVal ((c : Thread nD τ), .dma outS) 0)

theorem finish : iprop(Snd m K c 15 ∗ Rest m c ∗ owns (c : Thread nD τ) xM fullShare (xstg m c) ∗ atPos ER (barCell c) 1 ∅ 0
      ∗ owns (c : Thread nD τ) (xsB c) fullShare (xblk m c c) ∗ (∃ X, owns (c : Thread nD τ) (xrB c) fullShare X) ∗ atPos ER (recvCell c c) 0 ∅ 0)
    ⊢ iprop(|={Set.univ}=> Post m c) := by
  unfold Snd Rest Rcv
  rw [span_sep, span_sep, span_sep, span_sep]
  iintro ⟨⟨#HC, HO, -, Hats, Hsrc⟩, ⟨HW, ⟨-, Hatr, Hland⟩, Hacc, Hout, Hv⟩, Hx, Hbar, Hown, Hxr, Hself⟩
  ihave HW := copies_end m c $$ HW
  icases HW with ⟨Hw, Hwb, Hslots⟩
  ihave Hxs := xs_join m c $$ [Hown Hsrc]
  · isplitl [Hown] <;> iassumption
  ihave Hxr := xr_join m c $$ [Hxr Hland]
  · isplitl [Hxr] <;> iassumption
  imod (close_bar m K c) $$ [Hbar] with Hbar
  · isplitr <;> iassumption
  imod (close_self m K c) $$ [Hself] with Hself
  · isplitr <;> iassumption
  imod (close_all (P := ctx m K) fun k => close_send m K c k) $$ [Hats] with Hats
  · isplitr <;> iassumption
  imod (close_all (P := ctx m K) fun t : Fin 15 => close_recv m K c (c - off t)) $$ [Hatr] with Hatr
  · isplitr <;> iassumption
  imodintro
  unfold Post
  rw [around c (fun k => c - off k) (sub_off_inj c) (sub_off_ne c) fun p => semVal (recvCell c p) 0]
  isplitl [HO]; · iexact HO
  isplitl [Hx]; · iexact Hx
  isplitl [Hout]; · iexact Hout
  isplitl [Hw]; · iexact Hw
  isplitl [Hxs Hxr Hwb Hacc]
  · isplitl [Hxs]; · iexists _; iexact Hxs
    isplitl [Hxr]; · iexact Hxr
    isplitl [Hwb]; · iexact Hwb
    iexists _; iexact Hacc
  isplitl [Hbar]; · iexact Hbar
  isplitl [Hats]; · iexact Hats
  isplitl [Hself Hatr]
  · isplitl [Hself] <;> iassumption
  isplitl [Hslots] <;> iassumption

theorem body_run {Q : PUnit → sProp 𝕄} : Pre m K c ⊢ iprop((Post m c -∗ Q ⟨⟩)
    -∗ run c (cc0_body xM hx wM hw oM ho xsM hxs xrM hxr wbM hwb acM hac cc0_scratch4 cc0_scratch5 cc0_scratch6 cc0_scratch7) Q) := by
  have step {α β : Type} (p : Prog (TpuEff nD τ sig (Elt F) Λ₀ .tc) α) (k : α → Prog (TpuEff nD τ sig (Elt F) Λ₀ .tc) β) (Q : β → sProp 𝕄) :
      run c p (fun a => run c (k a) Q) ⊢ run c (p >>= k) Q := Entails.of_eq (wp_bind ..).symm
  rw [cc0_body_eq_skeleton]
  unfold cc0_body_skel Pre
  iintro ⟨H, Hb, Hx, ⟨%X, Hxs⟩, HT, Hxr, HW, HR, ⟨%A, Ha⟩, HO, Hs, Hself⟩ Hk
  iapply step
  iapply (part33 m K c _ X A (Toks c) (sends_begin m K c)) $$ [H Hb Hx Hxs HT HW HR Ha HO Hs]
  · isplitl [H]; · iexact H
    isplitl [Hb]; · iexact Hb
    isplitl [Hx]; · iexact Hx
    isplitl [Hxs]; · iexact Hxs
    isplitl [HT]; · iexact HT
    isplitl [HW]; · iexact HW
    isplitl [HR]; · iexact HR
    isplitl [Ha]; · iexact Ha
    isplitl [HO] <;> iassumption
  iintro %v2 H HRest Hx Hbar Hown
  simp only [Prog.lift, Prog.bind_op, Prog.bind_ret, Prog.pure_eq_ret]
  iapply (wp_sent m K c 13 13 rfl (send_sem 13 rfl _)) $$ H; iintro H
  iapply (wp_sent m K c 14 14 rfl (send_sem 14 rfl _)) $$ H; iintro H
  imod (finish m K c) $$ [H HRest Hx Hbar Hown Hxr Hself] with H
  · isplitl [H]; · iexact H
    isplitl [HRest]; · iexact HRest
    isplitl [Hx]; · iexact Hx
    isplitl [Hbar]; · iexact Hbar
    isplitl [Hown]; · iexact Hown
    isplitl [Hxr] <;> iassumption
  iapply run_ret
  iapply Hk; iexact H

end Cert.Exchange
-- ==== Proof.Start.lean ====
/-
What the launch makes of the semaphores and of the protocol's ghost state: the cells' invariants, and each device's
positions, tokens and credit.
-/
module

public import proofs.«01_k».proof.Proof.Body4

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Reindexing -/

theorem bigSep_fin_add {M : Type} [URA M] (a b : ℕ) (Φ : Fin (a + b) → sProp M) :
    bigSep Finset.univ Φ = iprop((bigSep Finset.univ fun i : Fin a => Φ (Fin.castAdd b i)) ∗ bigSep Finset.univ fun j : Fin b => Φ (Fin.natAdd a j)) := by
  rw [bigSep_univ_equiv (finSumFinEquiv (m := a) (n := b)) Φ, bigSep_univ_sum]
  simp only [finSumFinEquiv_apply_left, finSumFinEquiv_apply_right]
  rfl

theorem bigSep_fin_one {M : Type} [URA M] (Φ : Fin 1 → sProp M) : bigSep Finset.univ Φ = Φ 0 :=
  bigSep_univ_eq_bigSepL [(0 : Fin 1)] (by decide) (by decide) Φ

/-- The kernel's own semaphores: fifteen for sending, sixteen for receiving, six for the slots, one for the result. -/
def osem (i : Fin 38) : SemLoc sig := .dma ⟨1 + i.val, by have := i.isLt; show 1 + i.val < 39; omega⟩

theorem ownSemFacts : Pipeline.OwnSemFacts cfg0.spec osem := by decide

theorem ownSems0_eq (c : Dev nD) : (Pipeline.ownSems0 (Ix := Unit) (Name := ℕ) (U := UU) (Lvl := ℕ) (Val := Elt F) (τ := τ) osem c : sProp 𝕄)
    = iprop((bigSep Finset.univ fun k : Fin 15 => semVal (sendCell c k) 0) ∗ (bigSep Finset.univ fun p : Fin 16 => semVal (recvCell c p) 0)
      ∗ (bigSep Finset.univ fun s : Fin 6 => semVal ((c : Thread nD τ), .dma (slotS s)) 0) ∗ semVal ((c : Thread nD τ), .dma outS) 0) := by
  have hr : ∀ p : Fin 16, osem (Fin.natAdd 15 (Fin.castAdd 7 p)) = .dma (recvS p) := by decide
  have hs : ∀ s : Fin 6, osem (Fin.natAdd 15 (Fin.natAdd 16 (Fin.castAdd 1 s))) = .dma (slotS s) := by decide
  have ho : osem (Fin.natAdd 15 (Fin.natAdd 16 (Fin.natAdd 6 (0 : Fin 1)))) = .dma outS := by decide
  unfold Pipeline.ownSems0
  refine (bigSep_fin_add 15 23 _).trans (congrArg₂ BIBase.sep rfl ?_)
  refine (bigSep_fin_add 16 7 _).trans (congrArg₂ BIBase.sep (bigSep_congr fun p _ => by rw [hr]) ?_)
  refine (bigSep_fin_add 6 1 _).trans (congrArg₂ BIBase.sep (bigSep_congr fun s _ => by rw [hs]) ?_)
  rw [bigSep_fin_one, ho]

theorem unscopedSems0_eq (c : Dev nD) : (unscopedSems0 c : sProp 𝕄) = semVal (barCell c) 0 := by
  unfold unscopedSems0; rw [bigSep_eq_bigSepL_of_eq [SemLoc.reg barS] (by decide) (by decide)]; rfl

/-- A device's cells one kind after another. -/
theorem bigSep_cells (c : Dev nD) (Φ : GSem nD τ sig → sProp 𝕄) :
    (bigSep Finset.univ fun k : Fin 32 => Φ (kcell (c, k)))
      = iprop(Φ (barCell c) ∗ (bigSep Finset.univ fun k : Fin 15 => Φ (sendCell c k)) ∗ bigSep Finset.univ fun p : Fin 16 => Φ (recvCell c p)) := by
  have h0 : csem (Fin.castAdd 31 (0 : Fin 1)) = .reg barS := by decide
  have hs : ∀ k : Fin 15, csem (Fin.natAdd 1 (Fin.castAdd 16 k)) = .dma (sendS k) := by decide
  have hr : ∀ p : Fin 16, csem (Fin.natAdd 1 (Fin.natAdd 15 p)) = .dma (recvS p) := by decide
  refine (bigSep_fin_add 1 31 _).trans (congrArg₂ BIBase.sep (by rw [bigSep_fin_one]; dsimp only [kcell]; rw [h0]) ?_)
  refine (bigSep_fin_add 15 16 _).trans (congrArg₂ BIBase.sep (bigSep_congr fun k _ => by dsimp only [kcell]; rw [hs]) (bigSep_congr fun p _ => by dsimp only [kcell]; rw [hr]))

/-! ## The cells and the duty tokens -/

theorem csem_inj : Function.Injective csem := by decide +kernel
theorem kcell_injective : Function.Injective (kcell : Dev nD × Fin 32 → GSem nD τ sig) := by
  rintro ⟨c, k⟩ ⟨c', k'⟩ h
  have h1 : c = c' := congrArg (fun g : GSem nD τ sig => g.1.1) h
  have h2 : k = k' := csem_inj (congrArg Prod.snd h)
  rw [h1, h2]
def exCells : Finset (GSem nD τ sig) := Finset.univ.map ⟨kcell, kcell_injective⟩

/-- The duty tokens device `c` pays with: its signals', its landings', its sends'. -/
def tokOf : Dev nD × (Fin 15 ⊕ Fin 15 ⊕ Fin 15) → GSem nD τ sig × ℕ × Fin 15
  | (c, .inl i) => (barCell (c + off i), 0, back i)
  | (c, .inr (.inl i)) => (recvCell (c + ord i) c, 0, 0)
  | (c, .inr (.inr i)) => (sendCell c i, 0, 0)

/-- Which token it is, read off the token. -/
def tokRead (x : GSem nD τ sig × ℕ × Fin 15) : Dev nD × (Fin 15 ⊕ Fin 15 ⊕ Fin 15) :=
  match role x.1.2 with
  | .bar => (x.1.1.1 - off (back x.2.2), .inl (back x.2.2))
  | .recv p => (p, .inr (.inl ((List.finRange 15).find? (fun i => p + ord i = x.1.1.1) |>.getD 0)))
  | .send k => (x.1.1.1, .inr (.inr k))
  | .none => (0, .inl 0)

theorem find_ord (c : Dev nD) (i : Fin 15) : ((List.finRange 15).find? (fun j => c + ord j = c + ord i)).getD 0 = i := by
  revert c i; decide +kernel
theorem add_off_sub (c : Dev nD) (i : Fin 15) : c + off i - off i = c := by revert c i; decide +kernel

theorem tokRead_tokOf : Function.LeftInverse tokRead tokOf := by
  rintro ⟨c, i | i | i⟩
  · show (c + off i - off (back (back i)), Sum.inl (back (back i))) = _
    rw [back_back, add_off_sub]
  · unfold tokRead tokOf; dsimp only; rw [role_recv]; dsimp only; rw [find_ord]
  · unfold tokRead tokOf; dsimp only; rw [role_send]
theorem tokOf_injective : Function.Injective tokOf := tokRead_tokOf.injective
def exToks : Finset (GSem nD τ sig × ℕ × Fin 15) := Finset.univ.map ⟨tokOf, tokOf_injective⟩

def u₀ : UU :=
  (initOf (Pipeline.cells cfgs cellOf_inj) (Pipeline.launchToks cfgs cellOf_inj), (initOf exCells exToks, 1))

theorem ownU_split (a : UR sig nD τ) (b : UB) : (ownU ((a, (b, 1)) : UU) : sProp 𝕄) ⊢ iprop(BI.own (EP a) ∗ BI.own (ER b)) :=
  BI.own_op_elim ((uEmb (nD := nD) (τ := τ) (sig := sig) (Ix := Unit) (Val := Elt F) (Name := ℕ) (U := UU) (Lvl := ℕ)).toEmb.op_of_mem
    (Prod.mk_mem_op (URA.mem_op_one a) (URA.mem_one_op (b, (1 : Counters)))))

/-- Device `c`'s tokens. -/
def toks (c : Dev nD) : sProp 𝕄 :=
  iprop((span 0 15 fun i : Fin 15 => dutyTok ER (barCell (c + off i)) 0 (back i)) ∗ Toks c)

/-- What the launch element deals device `c`, -/
def G (c : Dev nD) : sProp 𝕄 :=
  iprop((bigSep Finset.univ fun k : Fin 32 => roundState ER (Rd m) (kcell (c, k)) 0)
    ∗ (bigSep Finset.univ fun k : Fin 32 => iprop(atPos ER (kcell (c, k)) 0 ∅ 0 ∗ reached ER (kcell (c, k)) 0)) ∗ toks c)

theorem fund_ex : BI.own (ER (initOf exCells exToks)) ⊢ (|==> bigSep Finset.univ (G m) : sProp 𝕄) := by
  have hX (Φ : GSem nD τ sig → sProp 𝕄) : bigSep exCells Φ = bigSep Finset.univ fun c : Dev nD => bigSep Finset.univ fun k : Fin 32 => Φ (kcell (c, k)) := by
    unfold exCells; rw [bigSep_map, bigSep_univ_prod]; rfl
  have hT : bigSep exToks (fun x => (dutyTok ER x.1 x.2.1 x.2.2 : sProp 𝕄)) = bigSep Finset.univ fun c : Dev nD => toks c := by
    unfold exToks; rw [bigSep_map, bigSep_univ_prod]
    exact bigSep_congr fun c _ => by
      unfold toks Toks
      rw [bigSep_univ_sum, bigSep_univ_sum, span_all, span_all, bigSep_sep']; rfl
  iintro HX
  imod (Rounds.fund ER (Rd m) exCells exToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step -/

/-- The semaphores the kernel keeps to itself. -/
def local0 (c : Dev nD) : sProp 𝕄 :=
  iprop((bigSep Finset.univ fun s : Fin 6 => semVal ((c : Thread nD τ), .dma (slotS s)) 0) ∗ semVal ((c : Thread nD τ), .dma outS) 0)

theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun k : Fin 32 => semVal (kcell (c, k)) 0) ∗ local0 c) : sProp 𝕄) := by
  rw [ownSems0_eq, unscopedSems0_eq, bigSep_cells c fun g => semVal g 0]
  unfold local0
  iintro ⟨⟨HS, HR, HL, HO⟩, HB⟩
  isplitl [HS HR HB]
  · isplitl [HB]; · iexact HB
    isplitl [HS] <;> iassumption
  isplitl [HL] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c ∗ local0 c) := by
  unfold G
  iintro ⟨Hos, Hus, Hst, Hat, Htok⟩
  ihave Hv := (sems0_eq (F := F) c) $$ [Hos Hus]
  · isplitl [Hos] <;> iassumption
  icases Hv with ⟨Hv, HL⟩
  imod (show iprop((bigSep Finset.univ fun k : Fin 32 => semVal (kcell (c, k)) 0) ∗ bigSep Finset.univ fun k : Fin 32 => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

/-- The cells' invariants and that each is at round 0. -/
def records (K : Dev nD × Fin 32 → ℕ) : sProp 𝕄 :=
  iprop((bigSep Finset.univ fun ck : Dev nD × Fin 32 => cellInv ER (Rd m) (K ck) (kcell ck))
    ∗ bigSep Finset.univ fun ck : Dev nD × Fin 32 => reached ER (kcell ck) 0)

instance records_persistent (K : Dev nD × Fin 32 → ℕ) : BI.Persistent (records (F := F) m K) := by unfold records; infer_instance

/-- What stays with device `c`. -/
def linear (c : Dev nD) : sProp 𝕄 :=
  iprop((bigSep Finset.univ fun k : Fin 32 => atPos ER (kcell (c, k)) 0 ∅ 0) ∗ toks c ∗ local0 c)

/-- What the global step leaves device `c` with. -/
def G' (c : Dev nD) : sProp 𝕄 := iprop(∃ K, records m K ∗ linear c)

theorem G'_intro (K : Dev nD × Fin 32 → ℕ) (c : Dev nD) : iprop(records m K ∗ linear c) ⊢ G' (F := F) m c := by
  unfold G'
  iintro H
  iexists K; iexact H

theorem with_records (K : Dev nD × Fin 32 → ℕ) :
    iprop(records m K ∗ bigSep Finset.univ fun c : Dev nD => (linear c : sProp 𝕄)) ⊢ bigSep Finset.univ (G' (F := F) m) := by
  refine (sep_mono_left (BI.bigSep_of_persistent (Finset.univ : Finset (Dev nD)) (records m K))).trans ?_
  rw [← bigSep_sep']
  exact bigSep_mono fun c _ => G'_intro m K c

theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c ∗ local0 c) : sProp 𝕄)
      ⊢ bigSep Finset.univ (G' m) := by
  have hl : (bigSep Finset.univ fun c : Dev nD => (linear c : sProp 𝕄)) = iprop((bigSep Finset.univ fun c : Dev nD => bigSep Finset.univ fun k : Fin 32 => atPos ER (kcell (c, k)) 0 ∅ 0)
      ∗ bigSep Finset.univ fun c : Dev nD => iprop(toks c ∗ local0 c)) := bigSep_sep' _ _ _
  rw [bigSep_sep', bigSep_sep', ← bigSep_univ_prod (fun ck : Dev nD × Fin 32 => iprop(∃ κ : ℕ, cellInv ER (Rd m) κ (kcell ck))),
    bigSep_congr (s := Finset.univ) (fun (c : Dev nD) _ => bigSep_sep' Finset.univ (fun k : Fin 32 => (atPos ER (kcell (c, k)) 0 ∅ 0 : sProp 𝕄)) (fun k => reached ER (kcell (c, k)) 0)),
    bigSep_sep', ← bigSep_univ_prod (fun ck : Dev nD × Fin 32 => (reached ER (kcell ck) 0 : sProp 𝕄))]
  iintro ⟨HI, ⟨Hat, #HR⟩, Htok⟩
  ihave HK := (BI.bigSep_exists_pi Finset.univ (fun (ck : Dev nD × Fin 32) (κ : ℕ) => (cellInv ER (Rd m) κ (kcell ck) : sProp 𝕄))) $$ HI
  icases HK with ⟨%K, #HI⟩
  iapply (with_records m K)
  isplitr
  · unfold records; isplitl; · iexact HI
    iexact HR
  · iapply (Entails.of_eq hl.symm)
    isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- What every device owes a cell, counted signal by signal and transfer by transfer. -/
theorem owed_at (d : Dev nD) (g : GSem nD τ sig) :
    owedSig d 0 g () = (∑ i : Fin 15, if g = recvCell (d + ord i) d then N else 0) + ∑ i : Fin 15, if g = barCell (d + off i) then 1 else 0 := by
  have hs (f : Fin 15 → CellTallies nD τ sig Unit) : (∑ i ∈ Finset.univ.filter (fun i : Fin 15 => 0 ≤ i.val), f i) g () = ∑ i : Fin 15, f i g () := by
    rw [Finset.filter_true_of_mem fun i _ => Nat.zero_le _, Finset.sum_apply, Finsupp.finset_sum_apply]
  unfold owedSig owedSend
  rw [Pi.add_apply, Finsupp.add_apply, hs, hs]
  simp only [tallyAt_apply, and_true]

theorem bar_eq_iff {a b : Dev nD} : (barCell a = barCell b) ↔ (a = b) :=
  ⟨fun h => Fin.ext (congrArg (fun g : GSem nD τ sig => g.1.1.val) h), fun h => h ▸ rfl⟩
theorem recvS_inj : Function.Injective recvS := by decide
theorem recv_eq_iff {a b : Dev nD} {p q : Fin 16} : (recvCell a p = recvCell b q) ↔ (a = b ∧ p = q) :=
  ⟨fun h => ⟨Fin.ext (congrArg (fun g : GSem nD τ sig => g.1.1.val) h), recvS_inj (SemLoc.dma.inj (congrArg Prod.snd h))⟩, fun ⟨h, h'⟩ => h ▸ h' ▸ rfl⟩
theorem dma_ne_reg (q : DmaSem sig) (r : Sem sig) : (SemLoc.dma q : SemLoc sig) ≠ .reg r := fun h => by cases h
theorem recv_ne_bar (a b : Dev nD) (p : Fin 16) : recvCell a p ≠ barCell b := fun h => dma_ne_reg _ _ (congrArg Prod.snd h)

theorem bar_count (c : Dev nD) : (∑ d : Dev nD, ∑ i : Fin 15, if c = d + off i then 1 else 0) = 15 := by revert c; decide +kernel
theorem recv_count (c : Dev nD) (t : Fin 15) : (∑ d : Dev nD, ∑ i : Fin 15, if c = d + ord i ∧ c - off t = d then 1 else 0) = 1 := by
  revert c t; decide +kernel

theorem launch_bar (c : Dev nD) :
    tallyOn (barCell c) (launchCredit (Pipeline.owing fun d => owedSig d 0) 0 (barCell c)) = (tallyAt (barCell c) () 15 : CellTallies nD τ sig Unit) := by
  unfold tallyAt; refine congrArg _ (Finsupp.ext fun u => ?_); cases u
  rw [Pipeline.launchCredit_owing, Finsupp.single_eq_same, ← bar_count c]
  refine Finset.sum_congr rfl fun d _ => ?_
  rw [owed_at]
  simp only [bar_eq_iff, (recv_ne_bar _ _ _).symm, if_false, Finset.sum_const_zero, zero_add]

theorem launch_recv (c : Dev nD) (t : Fin 15) :
    tallyOn (recvCell c (c - off t)) (launchCredit (Pipeline.owing fun d => owedSig d 0) 0 (recvCell c (c - off t)))
      = (tallyAt (recvCell c (c - off t)) () N : CellTallies nD τ sig Unit) := by
  unfold tallyAt; refine congrArg _ (Finsupp.ext fun u => ?_); cases u
  rw [Pipeline.launchCredit_owing, Finsupp.single_eq_same]
  refine Eq.trans ?_ ((congrArg (· * N) (recv_count c t)).trans (one_mul N))
  rw [Finset.sum_mul]
  refine Finset.sum_congr rfl fun d _ => ?_
  rw [owed_at, Finset.sum_mul]
  simp only [recv_eq_iff, recv_ne_bar, if_false, Finset.sum_const_zero, add_zero, ite_mul, one_mul, zero_mul]

theorem from_inj (c : Dev nD) : Function.Injective fun t : Fin 15 => (SemLoc.dma (recvS (c - off t)) : SemLoc sig) :=
  fun a b h => sub_off_inj c (recvS_inj (SemLoc.dma.inj h))

theorem creds (c : Dev nD) :
    (Pipeline.launchCred (fun d => owedSig d 0) c : sProp 𝕄)
      ⊢ iprop(cred (tallyAt (barCell c) () 15) ∗ span 0 15 fun t : Fin 15 => cred (tallyAt (recvCell c (c - off t)) () N)) := by
  unfold Pipeline.launchCred
  rw [bigSep_univ_at _ (SemLoc.reg barS), launch_bar, span_all]
  refine sep_mono_right ?_
  refine (bigSep_subset (t := Finset.univ.map ⟨_, from_inj c⟩) fun x hx => ?_).trans ?_
  · obtain ⟨t, -, rfl⟩ := Finset.mem_map.mp hx
    exact Finset.mem_erase.mpr ⟨dma_ne_reg _ _, Finset.mem_univ _⟩
  · rw [bigSep_map]
    exact bigSep_mono fun t _ => Entails.of_eq (congrArg (fun T => cred T) (launch_recv c t))

end Cert.Exchange
-- ==== Proof.Run.lean ====
/-
The launch: the body handed to the pipeline library, and the run of the whole program.
-/
module

public import proofs.«01_k».proof.Proof.Start
public import Idealize.ShloMosaic.Lib.Pipeline.CollectiveSegs

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body's invariant at its two points -/

/-- The scratch buffers at some contents, -/
def scratch (c : Dev nD) : sProp 𝕄 :=
  iprop((∃ X, owns (c : Thread nD τ) xsM fullShare X) ∗ (∃ X, owns (c : Thread nD τ) xrM fullShare X) ∗ (∃ X, owns (c : Thread nD τ) wbM fullShare X)
    ∗ (∃ X, owns (c : Thread nD τ) acM fullShare X))
/-- the semaphores at zero. -/
def zeros (c : Dev nD) : sProp 𝕄 :=
  iprop(semVal (barCell c) 0 ∗ (span 0 15 fun i : Fin 15 => semVal (sendCell c i) 0) ∗ (bigSep Finset.univ fun p : Fin 16 => semVal (recvCell c p) 0)
    ∗ local0 c)

/-- What device `c` enters the kernel with: -/
def start (c : Dev nD) : sProp 𝕄 :=
  iprop(G' m c ∗ levAts L lv ∗ (cred (tallyAt (barCell c) () 15) ∗ span 0 15 fun t : Fin 15 => cred (tallyAt (recvCell c (c - off t)) () N))
    ∗ owns (c : Thread nD τ) wM fullShare (wts m c) ∗ ∃ X, owns (c : Thread nD τ) oM fullShare X)
/-- and leaves it with. -/
def ending (c : Dev nD) : sProp 𝕄 :=
  iprop(semVal (barCell c) 0 ∗ owns (c : Thread nD τ) wM fullShare (wts m c) ∗ owns (c : Thread nD τ) oM fullShare (fin m c))

def Φ₀ (c : Dev nD) : sProp 𝕄 := iprop(start m c ∗ scratch c)
def Φ₁ (c : Dev nD) : sProp 𝕄 := iprop(owns (c : Thread nD τ) oM fullShare (fin m c) ∗ owns (c : Thread nD τ) wM fullShare (wts m c) ∗ scratch c ∗ zeros c)

def dats (_ : Fin 1) (c : Dev nD) : Dat τ (Elt F) Unit ℕ UU ℕ cfg0 c where
  A w := m ((cfg0.win w).arr.view.loc (c : Thread nD τ))
  after w _ := match w with
    | ⟨0, _⟩ => xstg m c
  Φ t := match t with
    | ⟨0, _⟩ => Φ₀ m c
    | ⟨_ + 1, _⟩ => Φ₁ m c
  q _ := fullShare
  owed t := match t with
    | ⟨0, _⟩ => owedSig c 0
    | ⟨_ + 1, _⟩ => 0

theorem share_eq (c : Dev nD) (w : Fin cfg0.W) : (dats m 0 c).share w = fullShare := by unfold Dat.share; split <;> rfl

theorem post_parts (c : Dev nD) : Post m c = iprop(owing c 0 ∗ owns (c : Thread nD τ) xM fullShare (xstg m c) ∗ Φ₁ m c) := by
  unfold Post Φ₁ scratch zeros local0; rfl

/-! ## The body -/

theorem pre_intro (K : Dev nD × Fin 32 → ℕ) (c : Dev nD) :
    iprop((records m K ∗ linear c) ∗ levAts L lv ∗ (cred (tallyAt (barCell c) () 15) ∗ span 0 15 fun t : Fin 15 => cred (tallyAt (recvCell c (c - off t)) () N))
      ∗ (owns (c : Thread nD τ) wM fullShare (wts m c) ∗ ∃ X, owns (c : Thread nD τ) oM fullShare X) ∗ scratch c ∗ owing c (owedSig c 0)
      ∗ owns (c : Thread nD τ) xM fullShare (xstg m c)) ⊢ Pre m K c := by
  unfold records linear scratch Pre SigSt toks local0 Rcv Out ctx
  rw [span_sep, span_sep, bigSep_cells c fun g => atPos ER g 0 ∅ 0, span_all fun i : Fin 15 => atPos ER (sendCell c i) 0 ∅ 0,
    span_none (a := 0) (b := 0) (le_refl 0),
    around c (fun k => c - off k) (sub_off_inj c) (sub_off_ne c) fun p => atPos ER (recvCell c p) 0 ∅ 0]
  iintro ⟨⟨⟨#HI, #HR⟩, ⟨Hbar, Hats, Hself, Hatr⟩, ⟨Htb, Htoks⟩, Hslots, Hout⟩, #Hlev, ⟨Hcb, Hcr⟩, ⟨Hw, Ho⟩, ⟨Hxs, Hxr, Hwb, Hac⟩, HO, Hx⟩
  ihave Hxr := xr_split c $$ Hxr
  icases Hxr with ⟨Hxr, Hrooms⟩
  ihave HW := copies_begin m c $$ [Hw Hwb Hslots]
  · isplitl [Hw]; · iexact Hw
    isplitl [Hwb] <;> iassumption
  isplitl [HO Htb Hrooms]
  · isplitr
    · isplitr; · iexact HI
      isplitr; · iexact HR
      iexact Hlev
    isplitl [HO]; · iexact HO
    isplitl [Htb] <;> iassumption
  isplitl [Hcb Hbar]
  · isplitl [Hcb] <;> iassumption
  isplitl [Hx]; · iexact Hx
  isplitl [Hxs]; · iexact Hxs
  isplitl [Htoks]; · iexact Htoks
  isplitl [Hxr]; · iexact Hxr
  isplitl [HW]; · iexact HW
  isplitl [Hcr Hatr]
  · isplitl
    · isplitl [Hcr] <;> iassumption
    iempintro
  isplitl [Hac]; · iexact Hac
  isplitl [Ho Hout]
  · isplitl [Ho] <;> iassumption
  isplitl [Hats]; · iexact Hats
  iexact Hself

abbrev stg (c : Dev nD) (X : Vec F S4096x256 .f32) : sProp 𝕄 := owns (c : Thread nD τ) xM fullShare X

def bodyPre (c : Dev nD) : sProp 𝕄 :=
  iprop(Φ₀ m c ∗ (dats m 0 c).owesAt () t0_0.castSucc ∗ ∃ d, stg c ((dats m 0 c).before (0 : Fin 1) t0_0 d))
def bodyPost (c : Dev nD) : sProp 𝕄 :=
  iprop(Φ₁ m c ∗ (dats m 0 c).owesAt () t0_0.succ ∗ stg c (xstg m c))

theorem owes_before (c : Dev nD) : (dats m 0 c).owesAt () t0_0.castSucc ⊢ (owing c (owedSig c 0) : sProp 𝕄) := by
  unfold Dat.owesAt Pipeline.owesWithin owing
  rw [show (dats m 0 c).owed t0_0.castSucc = owedSig c 0 from rfl]
  iintro ⟨%W, %hW, HO⟩
  iexists W; iexact HO
theorem owes_after (c : Dev nD) : (owing c 0 : sProp 𝕄) ⊢ (dats m 0 c).owesAt () t0_0.succ := by
  unfold Dat.owesAt Pipeline.owesWithin owing
  rw [show (dats m 0 c).owed t0_0.succ = 0 from rfl]
  iintro ⟨%W, HO⟩
  iexists W
  isplitr; · ipureintro; exact fun _ _ => Or.inl trivial
  iexact HO

theorem fetched (c : Dev nD) (d) : (dats m 0 c).before (0 : Fin 1) t0_0 d = xstg m c := by
  unfold Dat.before; rw [if_pos (fetch0_0 t0_0)]; rfl

theorem sound_body (c : Dev nD) :
    bodyPre m c ⊢ run c (cc0_body (F := F) xM (Memref.isWhole_whole _) wM (Memref.isWhole_whole _) oM (Memref.isWhole_whole _) xsM (Memref.isWhole_whole _)
      xrM (Memref.isWhole_whole _) wbM (Memref.isWhole_whole _) acM (Memref.isWhole_whole _) cc0_scratch4 cc0_scratch5 cc0_scratch6 cc0_scratch7)
      (fun _ => bodyPost m c) := by
  have hp : Post m c ⊢ bodyPost m c := by
    rw [post_parts]; unfold bodyPost
    iintro ⟨HO, Hx, HΦ⟩
    isplitl [HΦ]; · iexact HΦ
    isplitl [HO]
    · iapply (owes_after m c); iexact HO
    iexact Hx
  unfold bodyPre Φ₀ start G'
  simp only [fetched]
  iintro ⟨⟨⟨⟨%K, HG⟩, Hlev, Hcr, Hwo⟩, Hs⟩, HO, ⟨%d, Hx⟩⟩
  ihave HO := owes_before m c $$ HO
  ihave HP := pre_intro m K c $$ [HG Hlev Hcr Hwo Hs HO Hx]
  · isplitl [HG]; · iexact HG
    isplitl [Hlev]; · iexact Hlev
    isplitl [Hcr]; · iexact Hcr
    isplitl [Hwo]; · iexact Hwo
    isplitl [Hs]; · iexact Hs
    isplitl [HO] <;> iassumption
  iapply (body_run m K c) $$ HP
  iintro HQ
  iapply hp; iexact HQ

set_option maxRecDepth 100000 in
theorem body_obligation (c : Dev nD) : BodyObligation (dats (F := F) m 0 c) (defs₀ (F := F)) 𝒱₀ () Set.univ := fun t => by
  rw [fin_N0 t]
  rw [bigSep_W0, bigSep_W0]
  show bodyPre m c ⊢ run c (cc0_body (F := F) xM (Memref.isWhole_whole _) wM (Memref.isWhole_whole _) oM (Memref.isWhole_whole _) xsM (Memref.isWhole_whole _)
      xrM (Memref.isWhole_whole _) wbM (Memref.isWhole_whole _) acM (Memref.isWhole_whole _) cc0_scratch4 cc0_scratch5 cc0_scratch6 cc0_scratch7)
      (fun _ => bodyPost m c)
  exact sound_body m c

/-! ## The theorem's side conditions -/

theorem start_intro (c : Dev nD) :
    iprop(Pipeline.unscopedRestP Pipeline.Prefetch.none cfg0.spec c (fun b => m ((c : Thread nD τ).loc b)) ∗ levAts L lv
        ∗ Pipeline.launchCred (fun d => owedSig d 0) c ∗ prngReg c (ρ c) ∗ G' m c)
      ⊢ |={Set.univ}=> iprop(start m c ∗ emp) := by
  rw [Pipeline.unscopedRestP_none, unscopedRest0_eq]
  unfold start
  simp only [owns_whole]
  iintro ⟨⟨Hw, Ho⟩, Hlev, Hcr, -, HG⟩
  ihave Hc := (creds (F := F) c) $$ Hcr
  imodintro
  isplitl
  · isplitl [HG]; · iexact HG
    isplitl [Hlev]; · iexact Hlev
    isplitl [Hc]; · iexact Hc
    isplitl [Hw]; · iexact Hw
    iexists _; iexact Ho
  · iempintro

theorem scratch_eq (c : Dev nD) : (Pipeline.scopedRest cfg0.spec c : sProp 𝕄) = scratch c := by
  rw [scopedRest0_eq]; unfold scratch; simp only [owns_whole]; rfl

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scratch_eq]
  unfold Φ₀
  iintro ⟨Hs, -, Hr⟩
  isplitl [Hs] <;> iassumption

theorem phi1_exit (c : Dev nD) :
    (dats m 0 c).Φ (Fin.last cfg0.N) ⊢ iprop(ending m c ∗ Pipeline.ownSems0 osem c ∗ Pipeline.scopedRest cfg0.spec c) := by
  rw [show (dats m 0 c).Φ (Fin.last cfg0.N) = Φ₁ m c from rfl, scratch_eq, ownSems0_eq]
  unfold Φ₁ ending zeros local0
  rw [span_all]
  iintro ⟨Ho, Hw, Hs, Hb, Hsend, Hrecv, Hsl, Hout⟩
  isplitl [Hb Hw Ho]
  · isplitl [Hb]; · iexact Hb
    isplitl [Hw] <;> iassumption
  isplitl [Hsend Hrecv Hsl Hout]
  · isplitl [Hsend]; · iexact Hsend
    isplitl [Hrecv]; · iexact Hrecv
    isplitl [Hsl] <;> iassumption
  iexact Hs

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-- The whole of an array held is its contents in memory. -/
theorem whole_read (ℓ : Loc nD τ sig) (f : Buf (Elt F) ℓ) (s' : Phys nD τ sig (Elt F)) :
    (iprop((ℓ ↦{fullShare} f) ∗ SI s') : sProp 𝕄) ⊢ iprop(⌜s'.mem.mem ℓ = f⌝ ∗ SI s') := by
  have h : (iprop(SI s' ∗ (ℓ ↦{fullShare} f)) : sProp 𝕄) ⊢ ⌜s'.mem.mem ℓ = f⌝ :=
    SI_pointsTo_agree.trans (BI.pure_mono fun h => funext fun i => h i (Finset.mem_univ i))
  iintro ⟨H, HS⟩
  ihave %hf := h $$ [H HS]
  · isplitl [HS] <;> iassumption
  isplitr; · ipureintro; exact hf
  iexact HS

/-- What is read of a final state on device `c`. -/
def Seen (c : Dev nD) (s : MemSt nD τ sig (Elt F)) : Prop :=
  (∀ sm : SemLoc sig, sm.isScoped .tc = false → s.sem ((c.tc : Thread nD τ), sm) = 0)
    ∧ s.mem ((c : Thread nD τ).loc main_arg1) = wts m c ∧ s.mem ((c : Thread nD τ).loc main_v1) = fin m c

theorem seen (c : Dev nD) (s' : Phys nD τ sig (Elt F)) :
    iprop(ending m c ∗ emp ∗ SI s') ⊢ |={Set.univ}=> iprop(⌜Seen m c s'.mem⌝ ∗ SI s') := by
  unfold ending
  rw [owns_whole, owns_whole, ← unscopedSems0_eq]
  iintro ⟨⟨Hb, Hw, Ho⟩, -, HSI⟩
  ihave H := whole_read _ _ s' $$ [Hw HSI]
  · isplitl [Hw] <;> iassumption
  icases H with ⟨%hw, HSI⟩
  ihave H := whole_read _ _ s' $$ [Ho HSI]
  · isplitl [Ho] <;> iassumption
  icases H with ⟨%ho, HSI⟩
  imod (Pipeline.unscopedSems0_read (X := unscopedSems0 c) (c := c) fupd_intro s') $$ [Hb HSI] with ⟨%hs, HSI⟩
  · isplitl [Hb] <;> iassumption
  imodintro
  isplitr; · ipureintro; exact ⟨hs, hw, ho⟩
  iexact HSI

/-! ## The run -/

/-- The arguments unchanged, the result at `fin`. -/
def QC (r : PUnit × MemSt nD τ sig (Elt F)) : Prop :=
  ∀ c : Dev nD, r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_v1) = fin m c

set_option maxRecDepth 8000 in
/-- For any float values, from any memory with zero counters: every weakly fair execution on the sixteen devices
    terminates, and every final state has each device's arguments unchanged, its result at `fin` and every counter at zero. -/
theorem run_main : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := fun c => owedSig c 0) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_split _ _) $$ Hu
      icases H with ⟨HP, HX⟩
      imod (fund_ex m) $$ HX with HG
      imodintro
      isplitl [HP] <;> iassumption)
    (hglob := glob m)
    (hA := fun _ _ => rfl) (hpf := fun _ k => k.elim0)
    (X := start m) (Y := ending m) (Z := fun _ => iprop(emp))
    (hX := start_intro m ρ) (hin := phi0_intro m) (hout := phi1_exit m)
    (QY := Seen m) (hY := seen m)
    (hQ := fun _ h hs => ⟨fun c => ⟨((h c).1 (0 : Fin 1)).trans ((dats (F := F) m 0 c).arrAt_in (0 : Fin 1) rfl _), (h c).2.2.2.1, (h c).2.2.2.2⟩,
      sem_eq_zero hs fun c => (h c).2.2.1⟩)

end Cert.Exchange
-- ==== Proof.Value.lean ====
/-
What the exchange computes at the ideal values: a row block of the whole product, cut off below at zero.
-/
module

public import proofs.«01_k».proof.Proof.Body4
public import Idealize.ShloMosaic.Lib.MatmulPlain
public import Idealize.ShloMosaic.Lib.ValueIdx
public import Idealize.ShloMosaic.Lib.StackMember
public import Idealize.ShloMosaic.Lib.Layout

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

variable (m : (ℓ : Loc nD τ sig) → Buf (Elt Ideal) ℓ)

/-- Row `k` of block `p`, of 4096 rows in sixteen blocks. -/
def row (p : Fin 16) (k : Fin 256) : Fin 4096 := ⟨256 * p.val + k.val, by omega⟩

theorem sum_rows {A : Type} [AddCommMonoid A] (f : Fin 4096 → A) : (∑ p : Fin 16, ∑ k : Fin 256, f (row p k)) = ∑ K : Fin 4096, f K := by
  rw [← Fintype.sum_prod_type' fun (p : Fin 16) (k : Fin 256) => f (row p k)]
  exact Fintype.sum_equiv (finProdFinEquiv (m := 16) (n := 256)) _ f fun x => congrArg f (Fin.ext (Nat.add_comm _ _))

/-- The blocks taken in the order `c, c - 1, …` are all the blocks. -/
theorem sum_around {A : Type} [AddCommMonoid A] (c : Dev nD) (g : Dev nD → A) : (∑ t : Fin 16, g (c - t)) = ∑ p : Fin 16, g p :=
  Function.Bijective.sum_comp (e := fun t : Fin 16 => c - t) (by revert c; decide +kernel) g

/-! ## The blocks read at an index -/

theorem xs_emb (p : Fin 16) (r k : Fin 256) : (xsR p).emb (ix2 r k) = ix2 (row p r) k := by
  funext a; apply Fin.ext
  match a with
  | ⟨0, _⟩ => show 256 * p.val + 1 * r.val = 256 * p.val + r.val; omega
  | ⟨1, _⟩ => show 0 + 1 * k.val = k.val; omega
theorem w_emb (p : Fin 16) (k : Fin 256) (n : Fin 2048) : (wR p).emb (ix2 k n) = ix2 (row p k) n := by
  funext a; apply Fin.ext
  match a with
  | ⟨0, _⟩ => show 256 * p.val + 1 * k.val = 256 * p.val + k.val; omega
  | ⟨1, _⟩ => show 0 + 1 * n.val = n.val; omega

theorem xnar_apply (c : Dev nD) (i : S4096x256.Idx) : xnar m c i = xstg m c i := by
  unfold xnar k0_pay1; simp only [shapeCast_self]; rfl

theorem xslot_cast (a b : Dev nD) (h) : shapeCast (α := Ideal .bf16) S256x256 (xslot m a b) h = xblk m a b :=
  funext fun j => by unfold shapeCast xslot; rw [Shape.reshapeEquiv_reshapeEquiv, Shape.reshapeEquiv_self]
theorem wslot_cast (c p : Dev nD) (h) : shapeCast (α := Ideal .f32) S256x2048 (wslot m c p) h = wblk m c p :=
  funext fun j => by unfold shapeCast wslot; rw [Shape.reshapeEquiv_reshapeEquiv, Shape.reshapeEquiv_self]

theorem xblk_apply (a b : Dev nD) (r k : Fin 256) : xblk m a b (ix2 r k) = xstg m a (ix2 (row b r) k) := by
  unfold xblk; rw [xs_emb, xnar_apply]
theorem xown_apply (c : Dev nD) (r k : Fin 256) : xown m c (ix2 r k) = xstg m c (ix2 (row c r) k) := by
  unfold xown; rw [xs_emb]
theorem wblk_apply (c p : Dev nD) (k : Fin 256) (n : Fin 2048) : wblk m c p (ix2 k n) = wts m c (ix2 (row p k) n) := by
  unfold wblk; rw [w_emb]

/-! ## The products -/

theorem prod_apply {φ : FTy} (A : FVec Ideal S256x256 φ) (B : FVec Ideal S256x2048 .f32) (r : Fin 256) (n : Fin 2048) :
    matmul dot_S256x256_S256x2048_S256x2048_1_0_0_1_n_n none A B (constant S256x2048 .f32 0x00000000#32) (ix2 r n)
      = ∑ k : Fin 256, A (ix2 r k) * B (ix2 k n) := by
  refine (Ideal.matmul_plain_apply none A B _ r n).trans ?_
  rw [constant_apply, Ideal.ofBits_zero_f32, zero_add]

/-- Block `p`'s share of element `(r, n)` of device `c`'s result. -/
def share (c : Dev nD) (r : Fin 256) (n : Fin 2048) (p : Dev nD) : Elt Ideal .f32 :=
  ∑ k : Fin 256, xstg m p (ix2 (row c r) k) * wts m c (ix2 (row p k) n)

theorem first_apply (c : Dev nD) (r : Fin 256) (n : Fin 2048) : acc m c 0 (ix2 r n) = share m c r n c := by
  show k0_pay2 (xown m c) (wslot m c (c - 0)) (ix2 r n) = _
  unfold k0_pay2 share
  simp only [shapeCast_self, wslot_cast, prod_apply, xown_apply, wblk_apply, sub_zero]

theorem next_apply (A : Vec Ideal S256x2048 .f32) (c p : Dev nD) (r : Fin 256) (n : Fin 2048) :
    k0_pay3 A (xslot m p c) (wslot m c p) (ix2 r n) = A (ix2 r n) + share m c r n p := by
  unfold k0_pay3 share
  simp only [shapeCast_self, wslot_cast, xslot_cast, addf_apply, prod_apply, extf_apply, xblk_apply, wblk_apply]

theorem last_apply (A : Vec Ideal S256x2048 .f32) (c p : Dev nD) (r : Fin 256) (n : Fin 2048) :
    k0_pay19 A (xslot m p c) (wslot m c p) (ix2 r n) = max (A (ix2 r n) + share m c r n p) 0 := by
  unfold k0_pay19 share
  simp only [shapeCast_self, wslot_cast, xslot_cast, addf_apply, maximumf_apply, prod_apply, extf_apply, xblk_apply, wblk_apply]
  exact congrArg (max _) Ideal.ofBits_zero_f32

theorem off_ofNat (t : ℕ) (ht : t < 15) : off (Fin.ofNat 15 t) = Fin.ofNat 16 (t + 1) :=
  Fin.ext (by show t % 15 + 1 = (t + 1) % 16; omega)

/-- The accumulator after `t` landings: the shares of `c, c - 1, …, c - t`. -/
theorem acc_apply (c : Dev nD) (r : Fin 256) (n : Fin 2048) : ∀ t < 15, acc m c t (ix2 r n) = ∑ s ∈ Finset.range (t + 1), share m c r n (c - Fin.ofNat 16 s)
  | 0, _ => by
    rw [first_apply, Finset.sum_range_one]
    exact congrArg _ (show c = c - 0 from (sub_zero c).symm)
  | t + 1, h => by
    rw [Finset.sum_range_succ, ← acc_apply c r n t (by omega), ← off_ofNat t (by omega)]
    exact next_apply m _ c _ r n

/-- Device `c`'s result: the whole product's rows of block `c`, cut off below at zero. -/
theorem fin_apply (c : Dev nD) (r : Fin 256) (n : Fin 2048) :
    fin m c (ix2 r n) = max (∑ p : Fin 16, ∑ k : Fin 256, xstg m p (ix2 (row c r) k) * wts m c (ix2 (row p k) n)) 0 := by
  refine (last_apply m _ c _ r n).trans (congrArg (max · 0) ?_)
  rw [acc_apply m c r n 14 (by decide), show off 14 = Fin.ofNat 16 15 from by decide,
    ← Finset.sum_range_succ (fun s => share m c r n (c - Fin.ofNat 16 s)) 15, Finset.sum_range]
  refine (Finset.sum_congr rfl fun t _ => ?_).trans (sum_around c (share m c r n))
  rw [show (Fin.ofNat 16 t.val : Fin 16) = t from Fin.ext (Nat.mod_eq_of_lt t.isLt)]

end Cert.Exchange
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Value
public import Idealize.ShloMosaic.Adequacy
public import Idealize.ShloMosaic.Init

@[expose] public section

noncomputable section

namespace Cert.Proof

open Idealize.ShloMosaic Idealize.SL.Sem Cert.Kernel

open Idealize.ShloMosaic.TcCoe Idealize.ShloMosaic.ValueIdx
open scoped BigOperators

/-! ## The three programs run -/

/-- The exchange's run, its result left out. -/
theorem runs {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ h => ⟨fun c => ⟨(h.1 c).1, (h.1 c).2.1⟩, h.2⟩) (Cert.Exchange.run_main (F := F) m ρ)

/-- The two programs have one text, so their body tables are one: label by label, the same function on the same
    operands. -/
theorem bodies_eq : Cert.Kernel.defs₀ (F := Bits) = Cert.KernelIdeal.defs₀ (F := Bits) := by
  unfold Cert.Kernel.defs₀ Cert.KernelIdeal.defs₀
  refine congrArg Defs.onTc ?_
  funext l a
  match l, a with
  | 0, (t, s) => rfl
theorem defs_eq : Cert.Kernel.defs (F := Bits) = Cert.KernelIdeal.defs (F := Bits) :=
  congrArg (Pipeline.defs Cert.KernelIdeal.pcfgs) bodies_eq

theorem frame_kernel : Cert.quiescent_Kernel := by
  intro m ρ _
  rw [defs_eq]
  exact runs (F := Bits) m ρ
theorem frame_ideal : Cert.quiescent_KernelIdeal := fun m ρ _ => runs (F := Ideal) m ρ

theorem frame_reference : Cert.quiescent_ReferenceIdeal := fun m ρ _ =>
  (θ_run Cert.ReferenceIdeal.defs _ _).mono (fun _ h => ⟨fun c => (h c).2, funext fun s => by
    obtain ⟨t, s⟩ := s
    cases s with
    | reg k => exact k.elim0
    | dma k => exact k.elim0⟩) (Cert.ReferenceIdeal.Value.run m ρ)

/-! ## The value -/

section Value

variable (X : FVec Ideal Cert.ReferenceIdeal.S4096x4096 .f32) (W : FVec Ideal Cert.ReferenceIdeal.S4096x2048 .f32)

/-- The reference's result: the product cut off below at zero. -/
def relu : FVec Ideal Cert.ReferenceIdeal.S4096x2048 .f32 :=
  maximumf (F := Ideal) (Host.dotGeneral Cert.ReferenceIdeal.dot_S4096x4096_S4096x2048_S4096x2048_1_0_0_1_n_n none X W)
    (broadcastInDim Cert.ReferenceIdeal.S4096x2048 ![] Cert.ReferenceIdeal.Gen.bcast_S_S4096x2048 (constant Cert.ReferenceIdeal.S_ .f32 0x00000000#32))

theorem relu_apply (r : Fin 4096) (n : Fin 2048) : relu X W (ix2 r n) = max (∑ K : Fin 4096, X (ix2 r K) * W (ix2 K n)) 0 := by
  refine congrArg₂ max (StackMember.dotGeneral_plain_apply none X W r n) ?_
  exact Ideal.ofBits_zero_f32

theorem rows_idx (h : Layout.Tiles ⟨2, ![256, 2048]⟩ ⟨2, ![4096, 2048]⟩ 0 16) (c : Fin 16) (r : Fin 256) (n : Fin 2048) :
    h.idx c (ix2 r n) = ix2 (Cert.Exchange.row c r) n := by
  funext a; apply Fin.ext
  match a with
  | ⟨0, _⟩ => show c.val * 256 + r.val = 256 * c.val + r.val; omega
  | ⟨1, _⟩ => rfl
theorem cols_idx (h : Layout.Tiles ⟨2, ![4096, 256]⟩ ⟨2, ![4096, 4096]⟩ 1 16) (c : Fin 16) (r : Fin 4096) (k : Fin 256) :
    h.idx c (ix2 r k) = ix2 r (Cert.Exchange.row c k) := by
  funext a; apply Fin.ext
  match a with
  | ⟨0, _⟩ => rfl
  | ⟨1, _⟩ => show c.val * 256 + k.val = 256 * c.val + k.val; omega

/-- Device `c`'s result is row block `c` of the reference's. -/
theorem fin_eq (m : (ℓ : Loc Cert.KernelIdeal.nD Cert.KernelIdeal.τ Cert.KernelIdeal.sig) → Buf (Elt Ideal) ℓ)
    (hX : ∀ c, Cert.Exchange.xstg m c = Layout.block ⟨2, ![4096, 256]⟩ ⟨2, ![4096, 4096]⟩ 1 16 c X) (hW : ∀ c, Cert.Exchange.wts m c = W)
    (c : Dev Cert.KernelIdeal.nD) : Cert.Exchange.fin m c = Layout.block ⟨2, ![256, 2048]⟩ ⟨2, ![4096, 2048]⟩ 0 16 c (relu X W) := by
  funext i
  obtain ⟨r, n, rfl⟩ : ∃ (r : Fin 256) (n : Fin 2048), i = ix2 r n := ⟨i 0, i 1, eq_ix2 i⟩
  rw [Layout.block_apply, rows_idx, relu_apply, Cert.Exchange.fin_apply, ← Cert.Exchange.sum_rows]
  refine congrArg (max · 0) (Finset.sum_congr rfl fun p _ => Finset.sum_congr rfl fun k _ => ?_)
  rw [hX, hW, Layout.block_apply, cols_idx]

end Value

set_option maxRecDepth 100000 in
theorem staged (m : (ℓ : Loc Cert.KernelIdeal.nD Cert.KernelIdeal.τ Cert.KernelIdeal.sig) → Buf (Elt Ideal) ℓ) (c : Dev Cert.KernelIdeal.nD) :
    Cert.Exchange.xstg m c = m ((c.tc : Thread Cert.KernelIdeal.nD Cert.KernelIdeal.τ).loc Cert.KernelIdeal.main_arg0) := by
  funext i
  refine congrArg (m ((c.tc : Thread Cert.KernelIdeal.nD Cert.KernelIdeal.τ).loc Cert.KernelIdeal.main_arg0)) (?_ : _ = i)
  funext a; apply Fin.ext
  match a with
  | ⟨0, _⟩ => show 0 + 1 * (i 0).val = (i 0).val; omega
  | ⟨1, _⟩ => show 0 + 1 * (i 1).val = (i 1).val; omega

theorem value : Cert.algebraic_KernelIdeal_ReferenceIdeal := fun m ρ m' ρ' _ hm =>
  ⟨relu (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono (fun _ h c => ⟨(h.1 c).2.2.trans (fin_eq _ _ m (fun c => (staged m c).trans (hm c).1) (fun c => (hm c).2) c),
      (h.1 c).1, (h.1 c).2.1⟩) (Cert.Exchange.run_main (F := Ideal) m ρ),
    (θ_run Cert.ReferenceIdeal.defs _ _).mono (fun _ h => h 0) (Cert.ReferenceIdeal.Value.run m' ρ')⟩

theorem claim : Cert.Claim := ⟨Cert.Kernel.Gen.facts, Cert.KernelIdeal.Gen.facts, Cert.ReferenceIdeal.Gen.facts,
  frame_kernel, frame_ideal, frame_reference, trivial, value⟩

end Cert.Proof

end
